-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real_gate_inputs [hPre_real_gate_inputs : Cert.Pre_real_gate_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_real_gate_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_real_gate_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_gate_inputs [hPre_real_gate_inputs : Cert.Pre_real_gate_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_gate_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_real_gate_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_real_gate_inputs [hKernelIdeal : Cert.KernelIdeal.Facts] [hPre_real_gate_inputs : Cert.Pre_real_gate_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_gate_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_real_gate_inputs [hReferenceIdeal : Cert.ReferenceIdeal.Facts] [hPre_real_gate_inputs : Cert.Pre_real_gate_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_gate_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_real_gate_inputs [hKernelIdeal : Cert.KernelIdeal.Facts] [hReferenceIdeal : Cert.ReferenceIdeal.Facts] [hPre_real_gate_inputs : Cert.Pre_real_gate_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_gate_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12_8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_real_gate_inputs : Cert.Pre_real_gate_inputs.Facts),
    quiescent_Kernel (hKernel := hKernel)
    ∧ quiescent_KernelIdeal (hKernelIdeal := hKernelIdeal)
    ∧ quiescent_KernelIdeal_pre_real_gate_inputs (hKernelIdeal := hKernelIdeal) (hPre_real_gate_inputs := hPre_real_gate_inputs)
    ∧ quiescent_ReferenceIdeal (hReferenceIdeal := hReferenceIdeal)
    ∧ quiescent_ReferenceIdeal_pre_real_gate_inputs (hReferenceIdeal := hReferenceIdeal) (hPre_real_gate_inputs := hPre_real_gate_inputs)
    ∧ preserves_Kernel_KernelIdeal
    ∧ algebraic_KernelIdeal_ReferenceIdeal_pre_real_gate_inputs (hKernelIdeal := hKernelIdeal) (hReferenceIdeal := hReferenceIdeal) (hPre_real_gate_inputs := hPre_real_gate_inputs)
-- ==== Pre_real_gate_inputs.lean ====
abbrev S64x512x768 : Shape := ⟨3, ![64, 512, 768]⟩
abbrev S1024x768 : Shape := ⟨2, ![1024, 768]⟩
abbrev S1024 : Shape := ⟨1, ![1024]⟩
abbrev S1024x2048 : Shape := ⟨2, ![1024, 2048]⟩
abbrev S1024x1024 : Shape := ⟨2, ![1024, 1024]⟩
abbrev S_ : Shape := ⟨0, ![]⟩

class Facts : Prop where
  slices_S1024x2048_S1024x1024_0_0 : S1024x2048.Slices ![0, 0] S1024x1024
  bcast_S_S1024x1024 : S_.BroadcastsInDim S1024x1024 (![] : Fin 0 → Fin S1024x1024.rank)
  bcast_S_S1024 : S_.BroadcastsInDim S1024 (![] : Fin 0 → Fin S1024.rank)

variable [Facts]

def fn {F : FTy → Type} [FloatOps F] (main_arg0 : FVec F S64x512x768 .f32) (main_arg1 : FVec F S1024x768 .f32) (main_arg2 : FVec F S1024 .f32) (main_arg3 : FVec F S1024x768 .f32) (main_arg4 : FVec F S1024 .f32) (main_arg5 : FVec F S1024x2048 .f32) (main_arg6 : FVec F S1024 .f32) (main_arg7 : FVec F S1024x2048 .f32) (main_arg8 : FVec F S1024 .f32) (main_arg9 : FVec F S1024x2048 .f32) (main_arg10 : FVec F S1024 .f32) : IVec S1024x1024 1 × IVec S1024 1 :=
  let main_v0 : FVec F S1024x1024 .f32 := (extractStridedSlice S1024x1024 ![0, 0] · slices_S1024x2048_S1024x1024_0_0) main_arg5
  let main_v1 : FVec F S1024x1024 .f32 := Host.absf main_v0
  let main_cst : FVec F S_ .f32 := constant S_ .f32 0x7F800000#32
  let main_v2 : FVec F S1024x1024 .f32 := broadcastInDim S1024x1024 ![] bcast_S_S1024x1024 main_cst
  let main_v3 : IVec S1024x1024 1 := cmpf .olt main_v1 main_v2
  let main_v4 : FVec F S1024x1024 .f32 := (extractStridedSlice S1024x1024 ![0, 0] · slices_S1024x2048_S1024x1024_0_0) main_arg7
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_v8 : IVec S1024x1024 1 := andi main_v3 main_v7
  let main_v9 : FVec F S1024x1024 .f32 := (extractStridedSlice S1024x1024 ![0, 0] · slices_S1024x2048_S1024x1024_0_0) main_arg9
  let main_v10 : FVec F S1024x1024 .f32 := Host.absf main_v9
  let main_cst_1 : FVec F S_ .f32 := constant S_ .f32 0x7F800000#32
  let main_v11 : FVec F S1024x1024 .f32 := broadcastInDim S1024x1024 ![] bcast_S_S1024x1024 main_cst_1
  let main_v12 : IVec S1024x1024 1 := cmpf .olt main_v10 main_v11
  let main_v13 : IVec S1024x1024 1 := andi main_v8 main_v12
  let main_v14 : FVec F S1024 .f32 := Host.absf main_arg2
  let main_cst_2 : FVec F S_ .f32 := constant S_ .f32 0x7F800000#32
  let main_v15 : FVec F S1024 .f32 := broadcastInDim S1024 ![] bcast_S_S1024 main_cst_2
  let main_v16 : IVec S1024 1 := cmpf .olt main_v14 main_v15
  (main_v13, main_v16)
-- ==== Kernel.lean ====
abbrev S64x512x768 : Shape := ⟨3, ![64, 512, 768]⟩
abbrev S1024x768 : Shape := ⟨2, ![1024, 768]⟩
abbrev S1024 : Shape := ⟨1, ![1024]⟩
abbrev S1024x2048 : Shape := ⟨2, ![1024, 2048]⟩
abbrev S2048x768 : Shape := ⟨2, ![2048, 768]⟩
abbrev S768x2048 : Shape := ⟨2, ![768, 2048]⟩
abbrev S3072x2048 : Shape := ⟨2, ![3072, 2048]⟩
abbrev S2048x3072 : Shape := ⟨2, ![2048, 3072]⟩
abbrev S1024x1024 : Shape := ⟨2, ![1024, 1024]⟩
abbrev S3072 : Shape := ⟨1, ![3072]⟩
abbrev S1x3072 : Shape := ⟨2, ![1, 3072]⟩
abbrev S1x1024 : Shape := ⟨2, ![1, 1024]⟩
abbrev S64x1024 : Shape := ⟨2, ![64, 1024]⟩
abbrev S64x16x768 : Shape := ⟨3, ![64, 16, 768]⟩
abbrev S1024x3072 : Shape := ⟨2, ![1024, 3072]⟩
abbrev S2 : Shape := ⟨1, ![2]⟩
abbrev S1 : Shape := ⟨1, ![1]⟩
abbrev S_ : Shape := ⟨0, ![]⟩
abbrev S64x1x768 : Shape := ⟨3, ![64, 1, 768]⟩
abbrev S64x768 : Shape := ⟨2, ![64, 768]⟩
abbrev S768x1024 : Shape := ⟨2, ![768, 1024]⟩
abbrev S16x64x768 : Shape := ⟨3, ![16, 64, 768]⟩
abbrev S64x3072 : Shape := ⟨2, ![64, 3072]⟩
abbrev S64x2048 : Shape := ⟨2, ![64, 2048]⟩

abbrev nBuf : Space → Nat
  | .hbm => 33
  | .vmem => 9
  | .smem => 0
  | _ => 0

abbrev bufTy : (tb : Table) → Fin (tcTables nBuf tb) → BufTy
  | .hbm, ⟨0, _⟩ => ⟨S64x512x768, .f32⟩
  | .hbm, ⟨1, _⟩ => ⟨S1024x768, .f32⟩
  | .hbm, ⟨2, _⟩ => ⟨S1024, .f32⟩
  | .hbm, ⟨3, _⟩ => ⟨S1024x768, .f32⟩
  | .hbm, ⟨4, _⟩ => ⟨S1024, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S1024x2048, .f32⟩
  | .hbm, ⟨10, _⟩ => ⟨S1024, .f32⟩
  | .hbm, ⟨11, _⟩ => ⟨S2048x768, .f32⟩
  | .hbm, ⟨12, _⟩ => ⟨S2048x768, .bf16⟩
  | .hbm, ⟨13, _⟩ => ⟨S768x2048, .bf16⟩
  | .hbm, ⟨14, _⟩ => ⟨S3072x2048, .f32⟩
  | .hbm, ⟨15, _⟩ => ⟨S3072x2048, .bf16⟩
  | .hbm, ⟨16, _⟩ => ⟨S2048x3072, .bf16⟩
  | .hbm, ⟨17, _⟩ => ⟨S1024x1024, .f32⟩
  | .hbm, ⟨18, _⟩ => ⟨S1024x1024, .f32⟩
  | .hbm, ⟨19, _⟩ => ⟨S1024, .f32⟩
  | .hbm, ⟨20, _⟩ => ⟨S1024, .f32⟩
  | .hbm, ⟨21, _⟩ => ⟨S1024x1024, .f32⟩
  | .hbm, ⟨22, _⟩ => ⟨S1024x1024, .f32⟩
  | .hbm, ⟨23, _⟩ => ⟨S1024, .f32⟩
  | .hbm, ⟨24, _⟩ => ⟨S1024, .f32⟩
  | .hbm, ⟨25, _⟩ => ⟨S1024x1024, .f32⟩
  | .hbm, ⟨26, _⟩ => ⟨S1024x1024, .f32⟩
  | .hbm, ⟨27, _⟩ => ⟨S1024, .f32⟩
  | .hbm, ⟨28, _⟩ => ⟨S1024, .f32⟩
  | .hbm, ⟨29, _⟩ => ⟨S3072, .f32⟩
  | .hbm, ⟨30, _⟩ => ⟨S1x3072, .f32⟩
  | .hbm, ⟨31, _⟩ => ⟨S1x1024, .f32⟩
  | .hbm, ⟨32, _⟩ => ⟨S64x1024, .f32⟩
  | .local _ .vmem, ⟨0, _⟩ => ⟨S64x16x768, .f32⟩
  | .local _ .vmem, ⟨1, _⟩ => ⟨S64x16x768, .f32⟩
  | .local _ .vmem, ⟨2, _⟩ => ⟨S1x1024, .f32⟩
  | .local _ .vmem, ⟨3, _⟩ => ⟨S1x3072, .f32⟩
  | .local _ .vmem, ⟨4, _⟩ => ⟨S64x1024, .f32⟩
  | .local _ .vmem, ⟨5, _⟩ => ⟨S64x1024, .f32⟩
  | .local _ .vmem, ⟨6, _⟩ => ⟨S1024x3072, .bf16⟩
  | .local _ .vmem, ⟨7, _⟩ => ⟨S768x2048, .bf16⟩
  | .local _ .vmem, ⟨8, _⟩ => ⟨S2048x3072, .bf16⟩
  | _, _ => ⟨S64x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v392 : BitVec 1 := Scalar.cmpi .eq arg0 c31_i32
  let v393 : BitVec 32 := Scalar.extui v392
  let c0_i32_143 : BitVec 32 := 0#32
  let v394 : BitVec 1 := Scalar.cmpi .ne v393 c0_i32_143
  v394

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x16x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S64x512x768 : Shape := ⟨3, ![64, 512, 768]⟩
abbrev S1024x768 : Shape := ⟨2, ![1024, 768]⟩
abbrev S1024 : Shape := ⟨1, ![1024]⟩
abbrev S1024x2048 : Shape := ⟨2, ![1024, 2048]⟩
abbrev S64x1x768 : Shape := ⟨3, ![64, 1, 768]⟩
abbrev S64x768 : Shape := ⟨2, ![64, 768]⟩
abbrev S768x1024 : Shape := ⟨2, ![768, 1024]⟩
abbrev S64x1024 : Shape := ⟨2, ![64, 1024]⟩
abbrev S1x1024 : Shape := ⟨2, ![1, 1024]⟩
abbrev S64x512x1024 : Shape := ⟨3, ![64, 512, 1024]⟩
abbrev S1x1x1024 : Shape := ⟨3, ![1, 1, 1024]⟩
abbrev S512x64x1024 : Shape := ⟨3, ![512, 64, 1024]⟩
abbrev S_ : Shape := ⟨0, ![]⟩
abbrev S1x64x1024 : Shape := ⟨3, ![1, 64, 1024]⟩
abbrev S64x2048 : Shape := ⟨2, ![64, 2048]⟩
abbrev S2048x1024 : Shape := ⟨2, ![2048, 1024]⟩

abbrev nBuf : Space → Nat
  | .hbm => 82
  | .vmem => 0
  | .smem => 0
  | _ => 0

abbrev bufTy : (tb : Table) → Fin (tcTables nBuf tb) → BufTy
  | .hbm, ⟨0, _⟩ => ⟨S64x512x768, .f32⟩
  | .hbm, ⟨1, _⟩ => ⟨S1024x768, .f32⟩
  | .hbm, ⟨2, _⟩ => ⟨S1024, .f32⟩
  | .hbm, ⟨3, _⟩ => ⟨S1024x768, .f32⟩
  | .hbm, ⟨4, _⟩ => ⟨S1024, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S1024x2048, .f32⟩
  | .hbm, ⟨10, _⟩ => ⟨S1024, .f32⟩
  | .hbm, ⟨11, _⟩ => ⟨S64x1x768, .f32⟩
  | .hbm, ⟨12, _⟩ => ⟨S64x768, .f32⟩
  | .hbm, ⟨13, _⟩ => ⟨S768x1024, .f32⟩
  | .hbm, ⟨14, _⟩ => ⟨S64x1024, .f32⟩
  | .hbm, ⟨15, _⟩ => ⟨S1x1024, .f32⟩
  | .hbm, ⟨16, _⟩ => ⟨S64x1024, .f32⟩
  | .hbm, ⟨17, _⟩ => ⟨S64x1024, .f32⟩
  | .hbm, ⟨18, _⟩ => ⟨S64x512x1024, .f32⟩
  | .hbm, ⟨19, _⟩ => ⟨S1x1x1024, .f32⟩
  | .hbm, ⟨20, _⟩ => ⟨S64x512x1024, .f32⟩
  | .hbm, ⟨21, _⟩ => ⟨S64x512x1024, .f32⟩
  | .hbm, ⟨22, _⟩ => ⟨S512x64x1024, .f32⟩
  | .hbm, ⟨23, _⟩ => ⟨S_, .i32⟩
  | .hbm, ⟨24, _⟩ => ⟨S512x64x1024, .f32⟩
  | .hbm, ⟨25, _⟩ => ⟨S1024x2048, .f32⟩
  | .hbm, ⟨26, _⟩ => ⟨S1024, .f32⟩
  | .hbm, ⟨27, _⟩ => ⟨S1024x2048, .f32⟩
  | .hbm, ⟨28, _⟩ => ⟨S1024, .f32⟩
  | .hbm, ⟨29, _⟩ => ⟨S1024x2048, .f32⟩
  | .hbm, ⟨30, _⟩ => ⟨S1024, .f32⟩
  | .hbm, ⟨31, _⟩ => ⟨S_, .i32⟩
  | .hbm, ⟨32, _⟩ => ⟨S64x1024, .f32⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S1x64x1024, .f32⟩
  | .hbm, ⟨38, _⟩ => ⟨S64x1024, .f32⟩
  | .hbm, ⟨39, _⟩ => ⟨S64x2048, .f32⟩
  | .hbm, ⟨40, _⟩ => ⟨S2048x1024, .f32⟩
  | .hbm, ⟨41, _⟩ => ⟨S64x1024, .f32⟩
  | .hbm, ⟨42, _⟩ => ⟨S1x1024, .f32⟩
  | .hbm, ⟨43, _⟩ => ⟨S64x1024, .f32⟩
  | .hbm, ⟨44, _⟩ => ⟨S64x1024, .f32⟩
  | .hbm, ⟨45, _⟩ => ⟨S64x1024, .f32⟩
  | .hbm, ⟨46, _⟩ => ⟨S64x1024, .f32⟩
  | .hbm, ⟨47, _⟩ => ⟨S_, .f32⟩
  | .hbm, ⟨48, _⟩ => ⟨S64x1024, .f32⟩
  | .hbm, ⟨49, _⟩ => ⟨S64x1024, .f32⟩
  | .hbm, ⟨50, _⟩ => ⟨S_, .f32⟩
  | .hbm, ⟨51, _⟩ => ⟨S64x1024, .f32⟩
  | .hbm, ⟨52, _⟩ => ⟨S64x1024, .f32⟩
  | .hbm, ⟨53, _⟩ => ⟨S2048x1024, .f32⟩
  | .hbm, ⟨54, _⟩ => ⟨S64x1024, .f32⟩
  | .hbm, ⟨55, _⟩ => ⟨S1x1024, .f32⟩
  | .hbm, ⟨56, _⟩ => ⟨S64x1024, .f32⟩
  | .hbm, ⟨57, _⟩ => ⟨S64x1024, .f32⟩
  | .hbm, ⟨58, _⟩ => ⟨S64x1024, .f32⟩
  | .hbm, ⟨59, _⟩ => ⟨S64x1024, .f32⟩
  | .hbm, ⟨60, _⟩ => ⟨S_, .f32⟩
  | .hbm, ⟨61, _⟩ => ⟨S64x1024, .f32⟩
  | .hbm, ⟨62, _⟩ => ⟨S64x1024, .f32⟩
  | .hbm, ⟨63, _⟩ => ⟨S_, .f32⟩
  | .hbm, ⟨64, _⟩ => ⟨S64x1024, .f32⟩
  | .hbm, ⟨65, _⟩ => ⟨S64x1024, .f32⟩
  | .hbm, ⟨66, _⟩ => ⟨S64x1024, .f32⟩
  | .hbm, ⟨67, _⟩ => ⟨S64x2048, .f32⟩
  | .hbm, ⟨68, _⟩ => ⟨S2048x1024, .f32⟩
  | .hbm, ⟨69, _⟩ => ⟨S64x1024, .f32⟩
  | .hbm, ⟨70, _⟩ => ⟨S1x1024, .f32⟩
  | .hbm, ⟨71, _⟩ => ⟨S64x1024, .f32⟩
  | .hbm, ⟨72, _⟩ => ⟨S64x1024, .f32⟩
  | .hbm, ⟨73, _⟩ => ⟨S64x1024, .f32⟩
  | .hbm, ⟨74, _⟩ => ⟨S_, .f32⟩
  | .hbm, ⟨75, _⟩ => ⟨S64x1024, .f32⟩
  | .hbm, ⟨76, _⟩ => ⟨S64x1024, .f32⟩
  | .hbm, ⟨77, _⟩ => ⟨S64x1024, .f32⟩
  | .hbm, ⟨78, _⟩ => ⟨S64x1024, .f32⟩
  | .hbm, ⟨79, _⟩ => ⟨S64x1024, .f32⟩
  | .hbm, ⟨80, _⟩ => ⟨S_, .i32⟩
  | .hbm, ⟨81, _⟩ => ⟨S_, .i32⟩
  | _, _ => ⟨S64x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev main_v12_3 : Ref sig .tc := ⟨.hbm, 27, rfl⟩
abbrev main_v12_4 : Ref sig .tc := ⟨.hbm, 28, rfl⟩
abbrev main_v12_5 : Ref sig .tc := ⟨.hbm, 29, rfl⟩
abbrev main_v12_6 : Ref sig .tc := ⟨.hbm, 30, rfl⟩
abbrev main_v12_7 : Ref sig .tc := ⟨.hbm, 31, rfl⟩
abbrev main_v12_8 : Ref sig .tc := ⟨.hbm, 32, rfl⟩
abbrev main_while0c_c_8 : Ref sig .tc := ⟨.hbm, 33, rfl⟩
abbrev main_while0c_v13 : Ref sig .tc := ⟨.hbm, 34, rfl⟩
abbrev main_while0b_call0_c : Ref sig .tc := ⟨.hbm, 35, rfl⟩
abbrev main_while0b_call0_c_0 : Ref sig .tc := ⟨.hbm, 36, rfl⟩
abbrev main_while0b_call0_v0 : Ref sig .tc := ⟨.hbm, 37, rfl⟩
abbrev main_while0b_v13 : Ref sig .tc := ⟨.hbm, 38, rfl⟩
abbrev main_while0b_v14 : Ref sig .tc := ⟨.hbm, 39, rfl⟩
abbrev main_while0b_v15 : Ref sig .tc := ⟨.hbm, 40, rfl⟩
abbrev main_while0b_v16 : Ref sig .tc := ⟨.hbm, 41, rfl⟩
abbrev main_while0b_v17 : Ref sig .tc := ⟨.hbm, 42, rfl⟩
abbrev main_while0b_v18 : Ref sig .tc := ⟨.hbm, 43, rfl⟩
abbrev main_while0b_v19 : Ref sig .tc := ⟨.hbm, 44, rfl⟩
abbrev main_while0b_v20 : Ref sig .tc := ⟨.hbm, 45, rfl⟩
abbrev main_while0b_v21 : Ref sig .tc := ⟨.hbm, 46, rfl⟩
abbrev main_while0b_cst : Ref sig .tc := ⟨.hbm, 47, rfl⟩
abbrev main_while0b_v22 : Ref sig .tc := ⟨.hbm, 48, rfl⟩
abbrev main_while0b_v23 : Ref sig .tc := ⟨.hbm, 49, rfl⟩
abbrev main_while0b_cst_8 : Ref sig .tc := ⟨.hbm, 50, rfl⟩
abbrev main_while0b_v24 : Ref sig .tc := ⟨.hbm, 51, rfl⟩
abbrev main_while0b_v25 : Ref sig .tc := ⟨.hbm, 52, rfl⟩
abbrev main_while0b_v26 : Ref sig .tc := ⟨.hbm, 53, rfl⟩
abbrev main_while0b_v27 : Ref sig .tc := ⟨.hbm, 54, rfl⟩
abbrev main_while0b_v28 : Ref sig .tc := ⟨.hbm, 55, rfl⟩
abbrev main_while0b_v29 : Ref sig .tc := ⟨.hbm, 56, rfl⟩
abbrev main_while0b_v30 : Ref sig .tc := ⟨.hbm, 57, rfl⟩
abbrev main_while0b_v31 : Ref sig .tc := ⟨.hbm, 58, rfl⟩
abbrev main_while0b_v32 : Ref sig .tc := ⟨.hbm, 59, rfl⟩
abbrev main_while0b_cst_9 : Ref sig .tc := ⟨.hbm, 60, rfl⟩
abbrev main_while0b_v33 : Ref sig .tc := ⟨.hbm, 61, rfl⟩
abbrev main_while0b_v34 : Ref sig .tc := ⟨.hbm, 62, rfl⟩
abbrev main_while0b_cst_10 : Ref sig .tc := ⟨.hbm, 63, rfl⟩
abbrev main_while0b_v35 : Ref sig .tc := ⟨.hbm, 64, rfl⟩
abbrev main_while0b_v36 : Ref sig .tc := ⟨.hbm, 65, rfl⟩
abbrev main_while0b_v37 : Ref sig .tc := ⟨.hbm, 66, rfl⟩
abbrev main_while0b_v38 : Ref sig .tc := ⟨.hbm, 67, rfl⟩
abbrev main_while0b_v39 : Ref sig .tc := ⟨.hbm, 68, rfl⟩
abbrev main_while0b_v40 : Ref sig .tc := ⟨.hbm, 69, rfl⟩
abbrev main_while0b_v41 : Ref sig .tc := ⟨.hbm, 70, rfl⟩
abbrev main_while0b_v42 : Ref sig .tc := ⟨.hbm, 71, rfl⟩
abbrev main_while0b_v43 : Ref sig .tc := ⟨.hbm, 72, rfl⟩
abbrev main_while0b_v44 : Ref sig .tc := ⟨.hbm, 73, rfl⟩
abbrev main_while0b_cst_11 : Ref sig .tc := ⟨.hbm, 74, rfl⟩
abbrev main_while0b_v45 : Ref sig .tc := ⟨.hbm, 75, rfl⟩
abbrev main_while0b_v46 : Ref sig .tc := ⟨.hbm, 76, rfl⟩
abbrev main_while0b_v47 : Ref sig .tc := ⟨.hbm, 77, rfl⟩
abbrev main_while0b_v48 : Ref sig .tc := ⟨.hbm, 78, rfl⟩
abbrev main_while0b_v49 : Ref sig .tc := ⟨.hbm, 79, rfl⟩
abbrev main_while0b_c_12 : Ref sig .tc := ⟨.hbm, 80, rfl⟩
abbrev main_while0b_v50 : Ref sig .tc := ⟨.hbm, 81, rfl⟩

abbrev nD : Nat := 1
abbrev τ : Topo := Topo.v7x

variable {F : FTy → Type} [FloatOps F]

abbrev main_while0_count : Scf.Loop 32 := ⟨0#32, 512#32, 1#32⟩
-- ==== Proof.Step.lean ====
/- The arithmetic of the kernel's body: one time step of the recurrence on a tile, and the body's sixteen steps.
   The body is printed in parts that end in the middle of a step; each lemma here reads one part over an arbitrary
   state at its start, so that no lemma meets more than two steps at once. -/
module

public import proofs.«01_k».proof.Proof.Gen.KernelIdeal.Value

@[expose] public section

set_option maxRecDepth 16384

noncomputable section

namespace Cert.KernelIdeal.Gru

open Cert.KernelIdeal Cert.KernelIdeal.Gen Idealize.ShloMosaic Facts

variable {F : FTy → Type} [FloatOps F]

/-- The token's part of the two gates, as it is stored. -/
def gzr (g : Vec F S64x3072 .bf16) : FVec F S64x2048 .bf16 :=
  extractStridedSlice S64x2048 ![0, 0] g slices_S64x3072_o0_0_S64x2048

/-- The state as the products take it. -/
def hb (h : Vec F S64x1024 .f32) : FVec F S64x1024 .bf16 := truncf .bf16 h bitsLt_bf16_f32

/-- The state times the two gates' weights. -/
def hzr (w : Vec F S1024x2048 .bf16) (h : Vec F S64x1024 .f32) : FVec F S64x2048 .f32 :=
  matmul dot_S64x1024_S1024x2048_S64x2048_1_0_0_1_n_n none (hb h) w (constant S64x2048 .f32 0x00000000#32)

/-- The update and the reset gate of one step, side by side: the logistic function of the token's row and the state's product. -/
def zr (g : Vec F S64x3072 .bf16) (w : Vec F S1024x2048 .bf16) (h : Vec F S64x1024 .f32) : FVec F S64x2048 .f32 :=
  logistic (addf (extf .f32 (gzr g) bitsLt_bf16_f32) (hzr w h))

/-- The update gate. -/
def zOf (g : Vec F S64x3072 .bf16) (w : Vec F S1024x2048 .bf16) (h : Vec F S64x1024 .f32) : FVec F S64x1024 .f32 :=
  extractStridedSlice S64x1024 ![0, 0] (zr g w h) slices_S64x2048_o0_0_S64x1024

/-- The reset gate. -/
def rOf (g : Vec F S64x3072 .bf16) (w : Vec F S1024x2048 .bf16) (h : Vec F S64x1024 .f32) : FVec F S64x1024 .f32 :=
  extractStridedSlice S64x1024 ![0, 1024] (zr g w h) slices_S64x2048_o0_1024_S64x1024

/-- The token's part of the candidate state. -/
def gi (g : Vec F S64x3072 .bf16) : FVec F S64x1024 .bf16 :=
  extractStridedSlice S64x1024 ![0, 2048] g slices_S64x3072_o0_2048_S64x1024

/-- The reset state, as the candidate's product takes it. -/
def rh (g : Vec F S64x3072 .bf16) (w : Vec F S1024x2048 .bf16) (h : Vec F S64x1024 .f32) : FVec F S64x1024 .bf16 :=
  truncf .bf16 (mulf (rOf g w h) h) bitsLt_bf16_f32

/-- The reset state times its weights. -/
def rhw (g : Vec F S64x3072 .bf16) (w : Vec F S1024x2048 .bf16) (wi : Vec F S1024x1024 .bf16) (h : Vec F S64x1024 .f32) : FVec F S64x1024 .f32 :=
  matmul dot_S64x1024_S1024x1024_S64x1024_1_0_0_1_n_n none (rh g w h) wi (constant S64x1024 .f32 0x00000000#32)

/-- The candidate state. -/
def cand (g : Vec F S64x3072 .bf16) (w : Vec F S1024x2048 .bf16) (wi : Vec F S1024x1024 .bf16) (h : Vec F S64x1024 .f32) : FVec F S64x1024 .f32 :=
  tanh (addf (extf .f32 (gi g) bitsLt_bf16_f32) (rhw g w wi h))

/-- The part of the state that the update gate keeps. -/
def keep (g : Vec F S64x3072 .bf16) (w : Vec F S1024x2048 .bf16) (h : Vec F S64x1024 .f32) : FVec F S64x1024 .f32 :=
  mulf (subf (broadcast S64x1024 (Scalar.ofBits .f32 0x3F800000#32)) (zOf g w h)) h

/-- One step of the recurrence on the tile: the token's rows `g`, the gates' weights `w`, the candidate's `wi`, the state `h`. -/
def step (g : Vec F S64x3072 .bf16) (w : Vec F S1024x2048 .bf16) (wi : Vec F S1024x1024 .bf16) (h : Vec F S64x1024 .f32) : FVec F S64x1024 .f32 :=
  addf (keep g w h) (mulf (zOf g w h) (cand g w wi h))

/-- The part before the first step's end leaves the update gate. -/
theorem pay6_eq (h : Vec F S64x1024 .f32) (g : Vec F S64x3072 .bf16) (w : Vec F S1024x2048 .bf16) : k0_pay6 h g w = zOf g w h := rfl

/-- … the token's part of the candidate. -/
theorem pay7_eq (g : Vec F S64x3072 .bf16) : k0_pay7 g = gi g := rfl

/-- … and the reset state. -/
theorem pay8_eq (h : Vec F S64x1024 .f32) (g : Vec F S64x3072 .bf16) (w : Vec F S1024x2048 .bf16) : k0_pay8 h g w = rh g w h := rfl

/-- The second part's state: two steps after its start. -/
theorem pay9_eq (h : Vec F S64x1024 .f32) (g g' : Vec F S64x3072 .bf16) (w w' : Vec F S1024x2048 .bf16) (wi wi' : Vec F S1024x1024 .bf16) :
    k0_pay9 h (zOf g w h) (gi g) (rh g w h) wi g' w' wi' = step g' w' wi' (step g w wi h) := rfl

/-- The second part's update gate of the step it begins. -/
theorem pay11_eq (h : Vec F S64x1024 .f32) (z : FVec F S64x1024 .f32) (a b : FVec F S64x1024 .bf16) (wi : Vec F S1024x1024 .bf16) (g' : Vec F S64x3072 .bf16) (w' : Vec F S1024x2048 .bf16)
    (wi' : Vec F S1024x1024 .bf16) (g : Vec F S64x3072 .bf16) (w : Vec F S1024x2048 .bf16) :
    k0_pay11 h z a b wi g' w' wi' g w = zOf g w (k0_pay9 h z a b wi g' w' wi') := rfl

/-- The second part's reset gate of the step it begins. -/
theorem pay12_eq (h : Vec F S64x1024 .f32) (z : FVec F S64x1024 .f32) (a b : FVec F S64x1024 .bf16) (wi : Vec F S1024x1024 .bf16) (g' : Vec F S64x3072 .bf16) (w' : Vec F S1024x2048 .bf16)
    (wi' : Vec F S1024x1024 .bf16) (g : Vec F S64x3072 .bf16) (w : Vec F S1024x2048 .bf16) :
    k0_pay12 h z a b wi g' w' wi' g w = rOf g w (k0_pay9 h z a b wi g' w' wi') := rfl

/-- The third part's state. -/
theorem pay13_eq (h : FVec F S64x1024 .f32) (g g' : Vec F S64x3072 .bf16) (w w' : Vec F S1024x2048 .bf16) (wi wi' : Vec F S1024x1024 .bf16) :
    k0_pay13 h g (zOf g w h) (rOf g w h) wi g' w' wi' = step g' w' wi' (step g w wi h) := rfl

/-- The third part's product of its last state. -/
theorem pay14_eq (h : FVec F S64x1024 .f32) (z r : FVec F S64x1024 .f32) (g : Vec F S64x3072 .bf16) (wi : Vec F S1024x1024 .bf16) (k : Vec F S64x3072 .bf16) (l : Vec F S1024x2048 .bf16)
    (q : Vec F S1024x1024 .bf16) (w : Vec F S1024x2048 .bf16) : k0_pay14 h g z r wi k l q w = hzr w (k0_pay13 h g z r wi k l q) := rfl

/-- The third part's token rows of the step it begins. -/
theorem pay15_eq (g : Vec F S64x3072 .bf16) : k0_pay15 g = extf .f32 (gzr g) bitsLt_bf16_f32 := rfl

/-- The fourth part's state, over the product that the third part leaves. -/
theorem pay16_eq (h : FVec F S64x1024 .f32) (g g' : Vec F S64x3072 .bf16) (w w' : Vec F S1024x2048 .bf16) (wi wi' : Vec F S1024x1024 .bf16) :
    k0_pay16 h g (hzr w h) (extf .f32 (gzr g) bitsLt_bf16_f32) wi g' w' wi' = step g' w' wi' (step g w wi h) := rfl

/-- The fourth part's state as the products take it. -/
theorem pay17_eq (h : FVec F S64x1024 .f32) (a : Vec F S64x3072 .bf16) (p q : FVec F S64x2048 .f32) (b : Vec F S1024x1024 .bf16) (k : Vec F S64x3072 .bf16) (l : Vec F S1024x2048 .bf16)
    (d : Vec F S1024x1024 .bf16) : k0_pay17 h a p q b k l d = hb (k0_pay16 h a p q b k l d) := rfl

/-- The fourth part's token rows of the step it begins. -/
theorem pay18_eq (g : Vec F S64x3072 .bf16) : k0_pay18 g = gzr g := rfl

/-- The fifth part's state. -/
theorem pay19_eq (h : FVec F S64x1024 .f32) (g g' : Vec F S64x3072 .bf16) (w w' : Vec F S1024x2048 .bf16) (wi wi' : Vec F S1024x1024 .bf16) :
    k0_pay19 h (hb h) g (gzr g) w wi g' w' wi' = step g' w' wi' (step g w wi h) := rfl

/-- The fifth part's state as the products take it. -/
theorem pay20_eq (h : FVec F S64x1024 .f32) (a : FVec F S64x1024 .bf16) (b : Vec F S64x3072 .bf16) (p : FVec F S64x2048 .bf16) (q : Vec F S1024x2048 .bf16) (r : Vec F S1024x1024 .bf16)
    (k : Vec F S64x3072 .bf16) (l : Vec F S1024x2048 .bf16) (d : Vec F S1024x1024 .bf16) : k0_pay20 h a b p q r k l d = hb (k0_pay19 h a b p q r k l d) := rfl

/-- The sixth part's state after one step. -/
theorem pay21_eq (h : FVec F S64x1024 .f32) (g : Vec F S64x3072 .bf16) (w : Vec F S1024x2048 .bf16) (wi : Vec F S1024x1024 .bf16) : k0_pay21 h (hb h) g w wi = step g w wi h := rfl

/-- The sixth part leaves the two summands of its second step: what the update gate keeps, -/
theorem pay24_eq (h : FVec F S64x1024 .f32) (a : FVec F S64x1024 .bf16) (b : Vec F S64x3072 .bf16) (p : Vec F S1024x2048 .bf16) (q : Vec F S1024x1024 .bf16) (g : Vec F S64x3072 .bf16)
    (w : Vec F S1024x2048 .bf16) : k0_pay24 h a b p q g w = keep g w (k0_pay21 h a b p q) := rfl

/-- … and the gated candidate. -/
theorem pay25_eq (h : FVec F S64x1024 .f32) (a : FVec F S64x1024 .bf16) (b : Vec F S64x3072 .bf16) (p : Vec F S1024x2048 .bf16) (q : Vec F S1024x1024 .bf16) (g : Vec F S64x3072 .bf16)
    (w : Vec F S1024x2048 .bf16) (wi : Vec F S1024x1024 .bf16) :
    k0_pay25 h a b p q g w wi = mulf (zOf g w (k0_pay21 h a b p q)) (cand g w wi (k0_pay21 h a b p q)) := rfl

/-- The seventh part's state. -/
theorem pay26_eq (h : FVec F S64x1024 .f32) (g g' : Vec F S64x3072 .bf16) (w w' : Vec F S1024x2048 .bf16) (wi wi' : Vec F S1024x1024 .bf16) :
    k0_pay26 (keep g w h) (mulf (zOf g w h) (cand g w wi h)) g' w' wi' = step g' w' wi' (step g w wi h) := rfl

/-- The seventh part's update gate of the step it begins. -/
theorem pay28_eq (a b : FVec F S64x1024 .f32) (k : Vec F S64x3072 .bf16) (l : Vec F S1024x2048 .bf16) (d : Vec F S1024x1024 .bf16) (g : Vec F S64x3072 .bf16) (w : Vec F S1024x2048 .bf16) :
    k0_pay28 a b k l d g w = zOf g w (k0_pay26 a b k l d) := rfl

/-- The seventh part's candidate of the step it begins. -/
theorem pay29_eq (a b : FVec F S64x1024 .f32) (k : Vec F S64x3072 .bf16) (l : Vec F S1024x2048 .bf16) (d : Vec F S1024x1024 .bf16) (g : Vec F S64x3072 .bf16) (w : Vec F S1024x2048 .bf16)
    (wi : Vec F S1024x1024 .bf16) : k0_pay29 a b k l d g w wi = cand g w wi (k0_pay26 a b k l d) := rfl

/-- The eighth part's state. -/
theorem pay30_eq (h : FVec F S64x1024 .f32) (g g' : Vec F S64x3072 .bf16) (w w' : Vec F S1024x2048 .bf16) (wi wi' : Vec F S1024x1024 .bf16) :
    k0_pay30 h (zOf g w h) (cand g w wi h) (Scalar.ofBits .f32 0x3F800000#32) g' w' wi' = step g' w' wi' (step g w wi h) := rfl

/-- The eighth part's update gate of the step it begins. -/
theorem pay32_eq (h a b : FVec F S64x1024 .f32) (e : F .f32) (k : Vec F S64x3072 .bf16) (l : Vec F S1024x2048 .bf16) (d : Vec F S1024x1024 .bf16) (g : Vec F S64x3072 .bf16)
    (w : Vec F S1024x2048 .bf16) : k0_pay32 h a b e k l d g w = zOf g w (k0_pay30 h a b e k l d) := rfl

/-- The eighth part's token row of the candidate. -/
theorem pay33_eq (g : Vec F S64x3072 .bf16) : k0_pay33 g = gi g := rfl

/-- The eighth part's product of the reset state. -/
theorem pay34_eq (h a b : FVec F S64x1024 .f32) (e : F .f32) (k : Vec F S64x3072 .bf16) (l : Vec F S1024x2048 .bf16) (d : Vec F S1024x1024 .bf16) (g : Vec F S64x3072 .bf16)
    (w : Vec F S1024x2048 .bf16) (wi : Vec F S1024x1024 .bf16) : k0_pay34 h a b e k l d g w wi = rhw g w wi (k0_pay30 h a b e k l d) := rfl

/-- The ninth part's state. -/
theorem pay35_eq (h : FVec F S64x1024 .f32) (g g' : Vec F S64x3072 .bf16) (w w' : Vec F S1024x2048 .bf16) (wi wi' : Vec F S1024x1024 .bf16) :
    k0_pay35 h (zOf g w h) (gi g) (rhw g w wi h) g' w' wi' = step g' w' wi' (step g w wi h) := rfl

/-- The ninth part's update gate of the last step. -/
theorem pay37_eq (h a : FVec F S64x1024 .f32) (b : FVec F S64x1024 .bf16) (e : FVec F S64x1024 .f32) (k : Vec F S64x3072 .bf16) (l : Vec F S1024x2048 .bf16) (d : Vec F S1024x1024 .bf16)
    (g : Vec F S64x3072 .bf16) (w : Vec F S1024x2048 .bf16) : k0_pay37 h a b e k l d g w = zOf g w (k0_pay35 h a b e k l d) := rfl

/-- The ninth part's token row of the candidate. -/
theorem pay38_eq (g : Vec F S64x3072 .bf16) : k0_pay38 g = gi g := rfl

/-- The ninth part's reset state. -/
theorem pay39_eq (h a : FVec F S64x1024 .f32) (b : FVec F S64x1024 .bf16) (e : FVec F S64x1024 .f32) (k : Vec F S64x3072 .bf16) (l : Vec F S1024x2048 .bf16) (d : Vec F S1024x1024 .bf16)
    (g : Vec F S64x3072 .bf16) (w : Vec F S1024x2048 .bf16) : k0_pay39 h a b e k l d g w = rh g w (k0_pay35 h a b e k l d) := rfl

/-- The state that the body carries on is the one that it stores. -/
theorem pay2_eq (h z : FVec F S64x1024 .f32) (a b : FVec F S64x1024 .bf16) (wi : Vec F S1024x1024 .bf16) : k0_pay2 h z a b wi = k0_pay1 h z a b wi :=
  shapeCast_self _ _

/-- The state that the body stores: the last step's. -/
theorem pay1_eq (h : FVec F S64x1024 .f32) (g : Vec F S64x3072 .bf16) (w : Vec F S1024x2048 .bf16) (wi : Vec F S1024x1024 .bf16) :
    k0_pay1 h (zOf g w h) (gi g) (rh g w h) wi = step g w wi h := rfl

end Cert.KernelIdeal.Gru

end
-- ==== Proof.Body.lean ====
/- What the kernel's scratches hold after a grid point: the state after sixteen steps over the point's block of tokens,
   and the weights, which the first point's transfers bring. -/
module

public import proofs.«01_k».proof.Proof.Step
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Gru

open Cert.KernelIdeal Cert.KernelIdeal.Gen Idealize.ShloMosaic Idealize.ShloMosaic.TcCoe Idealize.SL.Sem Facts

variable {F : FTy → Type} [FloatOps F]
variable (m : (ℓ : Loc nD τ sig) → Buf (Elt F) ℓ)

/-- The rows of step `k` of a block's slab: 64 consecutive rows. -/
def tok (G : Vec F S1024x3072 .bf16) (k : ℕ) : Vec F S64x3072 .bf16 := fun i =>
  G (ix2 (n0 := 1024) (n1 := 3072) ⟨(64 * k + (i 0).val) % 1024, Nat.mod_lt _ (by decide)⟩ (i 1))

/-- A load of 64 rows of the slab, read as a step's rows. -/
theorem ld_tok (G : Vec F S1024x3072 .bf16) (o : ℕ) (inb) (ho : o % 64 = 0) (h : o ≤ 960) :
    View.ld (e' := .bf16) (Val := Elt F) G (Rect.unit (s := S1024x3072) ![o, 0] ![64, 3072] inb) = tok G (o / 64) := by
  funext x
  refine View.ld_unit_apply_of (S := S1024x3072) G ![o, 0] ![64, 3072] inb x _ fun a => ?_
  have h0 : (x 0).val < 64 := (x 0).isLt
  fin_cases a
  · show (64 * (o / 64) + (x 0).val) % 1024 = o + (x 0).val
    omega
  · show (x 1).val = 0 + (x 1).val
    omega

/-- A load from a scratch that one transfer filled whole reads the transfer's payload. -/
theorem readCov_whole {sp : Space} {S : Shape} {e : EltTy} (v : View sig .tc sp S e) (Z : S.Idx → Elt F e) (r : Rect S) :
    v.readCov [(⟨Rect.whole S, Z⟩ : View.Piece (Elt F) S e)] r.toLoadRect = View.ld Z r :=
  View.readCov_fill v _ Z [] r fun _ => rfl

/-- A scratch that one transfer filled whole holds the transfer's payload. -/
theorem canon_whole {S : Shape} {e : EltTy} (Z : S.Idx → Elt F e) : View.canon [(⟨Rect.whole S, Z⟩ : View.Piece (Elt F) S e)] = Z :=
  View.canon_cons_unit_lit _ Z [] fun _ => rfl

/-- A transfer's payload from a whole array is the array. -/
theorem payload_whole (b : Ref sig .tc) (X : b.ty.Contents (Elt F)) : (ReadAs.same.apply (View.read (Elt F) (View.whole b) X) : _) = X := rfl

/-- The gates' rows of the weights that meet the state. -/
def wzr (W : Vec F S2048x3072 .bf16) : Vec F S1024x2048 .bf16 :=
  View.ld W (Rect.unit (s := S2048x3072) ![1024, 0] S1024x2048.size inb_S2048x3072_S1024x2048_1024_0)

/-- The candidate's rows of the weights that meet the reset state. -/
def wi (W : Vec F S2048x3072 .bf16) : Vec F S1024x1024 .bf16 :=
  View.ld W (Rect.unit (s := S2048x3072) ![1024, 2048] S1024x1024.size inb_S2048x3072_S1024x1024_1024_2048)

/-- The first `n` steps over a slab. -/
def steps (G : Vec F S1024x3072 .bf16) (W : Vec F S2048x3072 .bf16) (h : Vec F S64x1024 .f32) : ℕ → Vec F S64x1024 .f32
  | 0 => h
  | n + 1 => step (tok G n) (wzr W) (wi W) (steps G W h n)

/-- The slab of a block of tokens: projected, then taken through the gates' rows of the weights that meet the token. -/
def slab (X : Vec F S64x16x768 .f32) (M : Vec F S768x2048 .bf16) (W : Vec F S2048x3072 .bf16) (b : Vec F S1x3072 .f32) : Vec F S1024x3072 .bf16 :=
  k0_pay4 X (View.ld M (Rect.unit (s := S768x2048) ![0, 0] S768x1024.size inb_S768x2048_S768x1024_0_0))
    (View.ld W (Rect.unit (s := S2048x3072) ![0, 0] S1024x3072.size inb_S2048x3072_S1024x3072_0_0)) b

/-- The state that the first token gives. -/
def start (X : Vec F S64x16x768 .f32) (M : Vec F S768x2048 .bf16) (b : Vec F S1x1024 .f32) : Vec F S64x1024 .f32 :=
  k0_pay3 (View.ld X (Rect.unit (s := S64x16x768) ![0, 0, 0] S64x1x768.size inb_S64x16x768_S64x1x768_0_0_0))
    (View.ld M (Rect.unit (s := S768x2048) ![0, 1024] S768x1024.size inb_S768x2048_S768x1024_0_1024)) b

/-- A middle point carries the state through its sixteen steps. -/
theorem state_B (c : Dev nD) (t : Fin cfg0.N) (h0 : ¬t.val % 32 = 0) (h1 : ¬t.val % 32 = 31) :
    (outsAt0 m c t.val t.isLt).2.1
      = steps (slab (iblk m c 0 t) (outsAt0 m c (t.val - 1) (Nat.lt_of_le_of_lt (Nat.sub_le _ _) t.isLt)).2.2.1
          (outsAt0 m c (t.val - 1) (Nat.lt_of_le_of_lt (Nat.sub_le _ _) t.isLt)).2.2.2 (iblk m c 2 t))
          (outsAt0 m c (t.val - 1) (Nat.lt_of_le_of_lt (Nat.sub_le _ _) t.isLt)).2.2.2
          (outsAt0 m c (t.val - 1) (Nat.lt_of_le_of_lt (Nat.sub_le _ _) t.isLt)).2.1 16 := by
  rw [outsAt0_B m c t h0 h1]
  generalize outsAt0 m c (t.val - 1) (Nat.lt_of_le_of_lt (Nat.sub_le _ _) t.isLt) = Y
  frame_open
  simp (disch := decide) only [↓ View.readCov_skip, ↓ View.readCov_cons_toLoadRect, ↓ View.readCov_fill]
  frame_out
  simp only [read_unread_whole, pay2_eq, pay6_eq, pay7_eq, pay8_eq, pay9_eq, pay11_eq, pay12_eq, pay13_eq, pay14_eq, pay15_eq, pay16_eq, pay17_eq, pay18_eq,
    pay19_eq, pay20_eq, pay21_eq, pay24_eq, pay25_eq, pay26_eq, pay28_eq, pay29_eq, pay30_eq, pay32_eq, pay33_eq, pay34_eq, pay35_eq, pay37_eq, pay38_eq, pay39_eq,
    pay1_eq]
  rw [ld_tok _ 0 _ (by decide) (by decide), ld_tok _ 64 _ (by decide) (by decide), ld_tok _ 128 _ (by decide) (by decide), ld_tok _ 192 _ (by decide) (by decide),
    ld_tok _ 256 _ (by decide) (by decide), ld_tok _ 320 _ (by decide) (by decide), ld_tok _ 384 _ (by decide) (by decide), ld_tok _ 448 _ (by decide) (by decide),
    ld_tok _ 512 _ (by decide) (by decide), ld_tok _ 576 _ (by decide) (by decide), ld_tok _ 640 _ (by decide) (by decide), ld_tok _ 704 _ (by decide) (by decide),
    ld_tok _ 768 _ (by decide) (by decide), ld_tok _ 832 _ (by decide) (by decide), ld_tok _ 896 _ (by decide) (by decide), ld_tok _ 960 _ (by decide) (by decide)]
  rfl

/-- So does the last point. -/
theorem state_C (c : Dev nD) (t : Fin cfg0.N) (h0 : ¬t.val % 32 = 0) (h1 : t.val % 32 = 31) :
    (outsAt0 m c t.val t.isLt).2.1
      = steps (slab (iblk m c 0 t) (outsAt0 m c (t.val - 1) (Nat.lt_of_le_of_lt (Nat.sub_le _ _) t.isLt)).2.2.1
          (outsAt0 m c (t.val - 1) (Nat.lt_of_le_of_lt (Nat.sub_le _ _) t.isLt)).2.2.2 (iblk m c 2 t))
          (outsAt0 m c (t.val - 1) (Nat.lt_of_le_of_lt (Nat.sub_le _ _) t.isLt)).2.2.2
          (outsAt0 m c (t.val - 1) (Nat.lt_of_le_of_lt (Nat.sub_le _ _) t.isLt)).2.1 16 := by
  rw [outsAt0_C m c t h0 h1]
  generalize outsAt0 m c (t.val - 1) (Nat.lt_of_le_of_lt (Nat.sub_le _ _) t.isLt) = Y
  frame_open
  simp (disch := decide) only [↓ View.readCov_skip, ↓ View.readCov_cons_toLoadRect, ↓ View.readCov_fill]
  frame_out
  simp only [read_unread_whole, pay2_eq, pay6_eq, pay7_eq, pay8_eq, pay9_eq, pay11_eq, pay12_eq, pay13_eq, pay14_eq, pay15_eq, pay16_eq, pay17_eq, pay18_eq,
    pay19_eq, pay20_eq, pay21_eq, pay24_eq, pay25_eq, pay26_eq, pay28_eq, pay29_eq, pay30_eq, pay32_eq, pay33_eq, pay34_eq, pay35_eq, pay37_eq, pay38_eq, pay39_eq,
    pay1_eq]
  rw [ld_tok _ 0 _ (by decide) (by decide), ld_tok _ 64 _ (by decide) (by decide), ld_tok _ 128 _ (by decide) (by decide), ld_tok _ 192 _ (by decide) (by decide),
    ld_tok _ 256 _ (by decide) (by decide), ld_tok _ 320 _ (by decide) (by decide), ld_tok _ 384 _ (by decide) (by decide), ld_tok _ 448 _ (by decide) (by decide),
    ld_tok _ 512 _ (by decide) (by decide), ld_tok _ 576 _ (by decide) (by decide), ld_tok _ 640 _ (by decide) (by decide), ld_tok _ 704 _ (by decide) (by decide),
    ld_tok _ 768 _ (by decide) (by decide), ld_tok _ 832 _ (by decide) (by decide), ld_tok _ 896 _ (by decide) (by decide), ld_tok _ 960 _ (by decide) (by decide)]
  rfl

/-- The last point writes out the state that it leaves. -/
theorem out_C (c : Dev nD) (t : Fin cfg0.N) (h0 : ¬t.val % 32 = 0) (h1 : t.val % 32 = 31) :
    (outsAt0 m c t.val t.isLt).1
      = steps (slab (iblk m c 0 t) (outsAt0 m c (t.val - 1) (Nat.lt_of_le_of_lt (Nat.sub_le _ _) t.isLt)).2.2.1
          (outsAt0 m c (t.val - 1) (Nat.lt_of_le_of_lt (Nat.sub_le _ _) t.isLt)).2.2.2 (iblk m c 2 t))
          (outsAt0 m c (t.val - 1) (Nat.lt_of_le_of_lt (Nat.sub_le _ _) t.isLt)).2.2.2
          (outsAt0 m c (t.val - 1) (Nat.lt_of_le_of_lt (Nat.sub_le _ _) t.isLt)).2.1 16 := by
  rw [outsAt0_C m c t h0 h1]
  generalize outsAt0 m c (t.val - 1) (Nat.lt_of_le_of_lt (Nat.sub_le _ _) t.isLt) = Y
  frame_open
  simp (disch := decide) only [↓ View.readCov_skip, ↓ View.readCov_cons_toLoadRect, ↓ View.readCov_fill]
  frame_out
  simp only [read_unread_whole, pay2_eq, pay6_eq, pay7_eq, pay8_eq, pay9_eq, pay11_eq, pay12_eq, pay13_eq, pay14_eq, pay15_eq, pay16_eq, pay17_eq, pay18_eq,
    pay19_eq, pay20_eq, pay21_eq, pay24_eq, pay25_eq, pay26_eq, pay28_eq, pay29_eq, pay30_eq, pay32_eq, pay33_eq, pay34_eq, pay35_eq, pay37_eq, pay38_eq, pay39_eq,
    pay1_eq]
  rw [ld_tok _ 0 _ (by decide) (by decide), ld_tok _ 64 _ (by decide) (by decide), ld_tok _ 128 _ (by decide) (by decide), ld_tok _ 192 _ (by decide) (by decide),
    ld_tok _ 256 _ (by decide) (by decide), ld_tok _ 320 _ (by decide) (by decide), ld_tok _ 384 _ (by decide) (by decide), ld_tok _ 448 _ (by decide) (by decide),
    ld_tok _ 512 _ (by decide) (by decide), ld_tok _ 576 _ (by decide) (by decide), ld_tok _ 640 _ (by decide) (by decide), ld_tok _ 704 _ (by decide) (by decide),
    ld_tok _ 768 _ (by decide) (by decide), ld_tok _ 832 _ (by decide) (by decide), ld_tok _ 896 _ (by decide) (by decide), ld_tok _ 960 _ (by decide) (by decide)]
  rfl

/-- The first point starts from the state of the first token. -/
theorem state_A (c : Dev nD) (t : Fin cfg0.N) (h0 : t.val % 32 = 0) (h1 : ¬t.val % 32 = 31) :
    (outsAt0 m c t.val t.isLt).2.1
      = steps (slab (iblk m c 0 t) (V m c main_v2) (V m c main_v5) (iblk m c 2 t)) (V m c main_v5)
          (start (iblk m c 0 t) (V m c main_v2) (iblk m c 1 t)) 16 := by
  rw [outsAt0_A m c t h0 h1]
  generalize V m c main_v2 = M
  generalize V m c main_v5 = W
  frame_open
  simp (disch := decide) only [↓ View.readCov_skip, ↓ View.readCov_cons_toLoadRect, ↓ View.readCov_fill]
  frame_out
  simp only [readCov_whole, payload_whole, pay2_eq, pay6_eq, pay7_eq, pay8_eq, pay9_eq, pay11_eq, pay12_eq, pay13_eq, pay14_eq, pay15_eq, pay16_eq, pay17_eq, pay18_eq,
    pay19_eq, pay20_eq, pay21_eq, pay24_eq, pay25_eq, pay26_eq, pay28_eq, pay29_eq, pay30_eq, pay32_eq, pay33_eq, pay34_eq, pay35_eq, pay37_eq, pay38_eq, pay39_eq,
    pay1_eq]
  rw [ld_tok _ 0 _ (by decide) (by decide), ld_tok _ 64 _ (by decide) (by decide), ld_tok _ 128 _ (by decide) (by decide), ld_tok _ 192 _ (by decide) (by decide),
    ld_tok _ 256 _ (by decide) (by decide), ld_tok _ 320 _ (by decide) (by decide), ld_tok _ 384 _ (by decide) (by decide), ld_tok _ 448 _ (by decide) (by decide),
    ld_tok _ 512 _ (by decide) (by decide), ld_tok _ 576 _ (by decide) (by decide), ld_tok _ 640 _ (by decide) (by decide), ld_tok _ 704 _ (by decide) (by decide),
    ld_tok _ 768 _ (by decide) (by decide), ld_tok _ 832 _ (by decide) (by decide), ld_tok _ 896 _ (by decide) (by decide), ld_tok _ 960 _ (by decide) (by decide)]
  rfl

/-- The first point's transfer brings the projection's weights. -/
theorem proj_A (c : Dev nD) (t : Fin cfg0.N) (h0 : t.val % 32 = 0) (h1 : ¬t.val % 32 = 31) :
    (outsAt0 m c t.val t.isLt).2.2.1 = V m c main_v2 := by
  rw [outsAt0_A m c t h0 h1]
  generalize V m c main_v2 = M
  generalize V m c main_v5 = W
  frame_open
  frame_out
  rw [canon_whole]
  rfl

/-- The first point's transfer brings the gates' weights. -/
theorem gates_A (c : Dev nD) (t : Fin cfg0.N) (h0 : t.val % 32 = 0) (h1 : ¬t.val % 32 = 31) :
    (outsAt0 m c t.val t.isLt).2.2.2 = V m c main_v5 := by
  rw [outsAt0_A m c t h0 h1]
  generalize V m c main_v2 = M
  generalize V m c main_v5 = W
  frame_open
  frame_out
  rw [canon_whole]
  rfl

/-- After any point the scratches hold the projection's weights -/
theorem proj_eq (c : Dev nD) : ∀ (k : ℕ) (t : Fin cfg0.N), t.val = k → (outsAt0 m c t.val t.isLt).2.2.1 = V m c main_v2
  | 0, t, ht => proj_A m c t (by omega) (by omega)
  | k + 1, t, ht => by
    have hN : t.val < 32 := lt_of_lt_of_eq t.isLt (show cfg0.N = 32 from N_0)
    have h0 : ¬t.val % 32 = 0 := by omega
    have ih := proj_eq c k ⟨t.val - 1, Nat.lt_of_le_of_lt (Nat.sub_le _ _) t.isLt⟩ (by show t.val - 1 = k; omega)
    by_cases h1 : t.val % 32 = 31
    · rw [outsAt0_C m c t h0 h1]
      exact ih
    · rw [outsAt0_B m c t h0 h1]
      exact ih

/-- … and the gates' weights. -/
theorem gates_eq (c : Dev nD) : ∀ (k : ℕ) (t : Fin cfg0.N), t.val = k → (outsAt0 m c t.val t.isLt).2.2.2 = V m c main_v5
  | 0, t, ht => gates_A m c t (by omega) (by omega)
  | k + 1, t, ht => by
    have hN : t.val < 32 := lt_of_lt_of_eq t.isLt (show cfg0.N = 32 from N_0)
    have h0 : ¬t.val % 32 = 0 := by omega
    have ih := gates_eq c k ⟨t.val - 1, Nat.lt_of_le_of_lt (Nat.sub_le _ _) t.isLt⟩ (by show t.val - 1 = k; omega)
    by_cases h1 : t.val % 32 = 31
    · rw [outsAt0_C m c t h0 h1]
      exact ih
    · rw [outsAt0_B m c t h0 h1]
      exact ih

/-- The slab of the point `n`'s tokens. -/
def slabAt (c : Dev nD) (t : Fin cfg0.N) : Vec F S1024x3072 .bf16 := slab (iblk m c 0 t) (V m c main_v2) (V m c main_v5) (iblk m c 2 t)

/-- The grid's first point. -/
def first : Fin cfg0.N := ⟨0, lt_of_lt_of_eq (by decide : 0 < 32) N_0.symm⟩

/-- The state at the entry. -/
def state0 (c : Dev nD) : Vec F S64x1024 .f32 := start (iblk m c 0 first) (V m c main_v2) (iblk m c 1 first)

/-- The state after `s` steps of the whole sequence: sixteen steps to a point. -/
def seq (c : Dev nD) : ℕ → Vec F S64x1024 .f32
  | 0 => state0 m c
  | s + 1 => step (tok (slabAt m c ⟨s / 16 % 32, lt_of_lt_of_eq (Nat.mod_lt _ (by decide)) (show 32 = cfg0.N from N_0.symm)⟩) (s % 16)) (wzr (V m c main_v5)) (wi (V m c main_v5)) (seq c s)

/-- A point's sixteen steps are sixteen steps of the sequence. -/
theorem steps_seq (c : Dev nD) (t : Fin cfg0.N) : ∀ n, n ≤ 16 → steps (slabAt m c t) (V m c main_v5) (seq m c (16 * t.val)) n = seq m c (16 * t.val + n)
  | 0, _ => rfl
  | n + 1, h => by
    have ht : t.val < 32 := lt_of_lt_of_eq t.isLt (show cfg0.N = 32 from N_0)
    rw [← Nat.add_assoc]
    rw [show seq m c (16 * t.val + n + 1) = step (tok (slabAt m c ⟨(16 * t.val + n) / 16 % 32, lt_of_lt_of_eq (Nat.mod_lt _ (by decide)) (show 32 = cfg0.N from N_0.symm)⟩)
        ((16 * t.val + n) % 16)) (wzr (V m c main_v5)) (wi (V m c main_v5)) (seq m c (16 * t.val + n)) from rfl,
      show ∀ h, steps (slabAt m c t) (V m c main_v5) h (n + 1) = step (tok (slabAt m c t) n) (wzr (V m c main_v5)) (wi (V m c main_v5)) (steps (slabAt m c t) (V m c main_v5) h n) from fun _ => rfl,
      steps_seq c t n (by omega)]
    have e1 : (16 * t.val + n) % 16 = n := by omega
    have e2 : (⟨(16 * t.val + n) / 16 % 32, lt_of_lt_of_eq (Nat.mod_lt _ (by decide)) (show 32 = cfg0.N from N_0.symm)⟩ : Fin cfg0.N) = t :=
      Fin.ext (by show (16 * t.val + n) / 16 % 32 = t.val; omega)
    rw [e1, e2]

/-- A point's steps over what the point before left, where the weights are known. -/
theorem steps_congr {X : Vec F S64x16x768 .f32} {b : Vec F S1x3072 .f32} {M M' : Vec F S768x2048 .bf16} {W W' : Vec F S2048x3072 .bf16} {h h' : Vec F S64x1024 .f32}
    (hM : M = M') (hW : W = W') (hh : h = h') : steps (slab X M W b) W h 16 = steps (slab X M' W' b) W' h' 16 := by
  rw [hM, hW, hh]

/-- After the point `t` the state is the one after `16 (t + 1)` steps. -/
theorem state_eq (c : Dev nD) : ∀ (k : ℕ) (t : Fin cfg0.N), t.val = k → (outsAt0 m c t.val t.isLt).2.1 = seq m c (16 * t.val + 16)
  | 0, t, ht => by
    have e : t = first := Fin.ext ht
    refine (state_A m c t (by omega) (by omega)).trans (Eq.trans ?_ (steps_seq m c t 16 le_rfl))
    rw [show 16 * t.val = 0 by omega, e]
    rfl
  | k + 1, t, ht => by
    have hN : t.val < 32 := lt_of_lt_of_eq t.isLt (show cfg0.N = 32 from N_0)
    have h0 : ¬t.val % 32 = 0 := by omega
    have hp : t.val - 1 = k := by omega
    have ih := state_eq c k ⟨t.val - 1, Nat.lt_of_le_of_lt (Nat.sub_le _ _) t.isLt⟩ hp
    have e : 16 * (t.val - 1) + 16 = 16 * t.val := by omega
    refine Eq.trans ?_ (steps_seq m c t 16 le_rfl)
    by_cases h1 : t.val % 32 = 31
    · exact (state_C m c t h0 h1).trans (steps_congr (proj_eq m c k ⟨t.val - 1, Nat.lt_of_le_of_lt (Nat.sub_le _ _) t.isLt⟩ hp) (gates_eq m c k ⟨t.val - 1, Nat.lt_of_le_of_lt (Nat.sub_le _ _) t.isLt⟩ hp) (ih.trans (congrArg (seq m c) e)))
    · exact (state_B m c t h0 h1).trans (steps_congr (proj_eq m c k ⟨t.val - 1, Nat.lt_of_le_of_lt (Nat.sub_le _ _) t.isLt⟩ hp) (gates_eq m c k ⟨t.val - 1, Nat.lt_of_le_of_lt (Nat.sub_le _ _) t.isLt⟩ hp) (ih.trans (congrArg (seq m c) e)))

/-- The last point writes out the state after all 512 steps. -/
theorem out_eq (c : Dev nD) (t : Fin cfg0.N) (ht : t.val % 32 = 31) : (outsAt0 m c t.val t.isLt).1 = seq m c 512 := by
  have h0 : ¬t.val % 32 = 0 := by omega
  have hN : t.val < 32 := lt_of_lt_of_eq t.isLt (show cfg0.N = 32 from N_0)
  refine (out_C m c t h0 ht).trans ((state_C m c t h0 ht).symm.trans ((state_eq m c t.val t rfl).trans ?_))
  rw [show t.val = 31 by omega]

end Cert.KernelIdeal.Gru

end
-- ==== Proof.Math.lean ====
/- The recurrence in plain mathematics, and the equation by which a gate may keep its token's bias apart. -/
module

public import Idealize.ShloMosaic.Lib.Pointwise

@[expose] public section

noncomputable section

namespace Cert.Gru

open Idealize.ShloMosaic

/-- One step of a gated recurrent unit on one row: what the update gate, the reset gate and the candidate take from the token,
    the three recurrent weights, the state before. -/
def next (gz gr gi : Fin 1024 → EReal) (wz wr wi : Fin 1024 → Fin 1024 → EReal) (h : Fin 1024 → EReal) (j : Fin 1024) : EReal :=
  (1 - Ideal.logistic (gz j + ∑ x, h x * wz x j)) * h j
    + Ideal.logistic (gz j + ∑ x, h x * wz x j) * Ideal.tanh (gi j + ∑ x, Ideal.logistic (gr x + ∑ y, h y * wr y x) * h x * wi x j)

/-- A product by a real number distributes over a sum whose second term is real. -/
theorem add_mul_real (u b w : EReal) (hb : b ≠ ⊤ ∧ b ≠ ⊥) (hw : w ≠ ⊤ ∧ w ≠ ⊥) : (u + b) * w = u * w + b * w := by
  lift b to ℝ using hb
  lift w to ℝ using hw
  induction u with
  | coe u => norm_cast; ring
  | top =>
    rw [EReal.top_add_coe]
    rcases lt_trichotomy w 0 with h | h | h
    · rw [EReal.top_mul_coe_of_neg h, EReal.bot_add]
    · subst h; simp
    · rw [EReal.top_mul_coe_of_pos h, ← EReal.coe_mul, EReal.top_add_coe]
  | bot =>
    rw [EReal.bot_add]
    rcases lt_trichotomy w 0 with h | h | h
    · rw [EReal.bot_mul_coe_of_neg h, ← EReal.coe_mul, EReal.top_add_coe]
    · subst h; simp
    · rw [EReal.bot_mul_coe_of_pos h, EReal.bot_add]

/-- A gate's input: the token's bias, taken through the weights once, joins the gate's own bias. `r` is the state's part. -/
theorem gate_eq (u bm w : Fin 1024 → EReal) (b r : EReal) (hb : ∀ k, bm k ≠ ⊤ ∧ bm k ≠ ⊥) (hw : ∀ k, w k ≠ ⊤ ∧ w k ≠ ⊥) :
    ((∑ k, u k * w k) + (b + ∑ k, bm k * w k)) + r = ((∑ k, (u k + bm k) * w k) + r) + b := by
  rw [Finset.sum_congr rfl fun k _ => add_mul_real (u k) (bm k) (w k) (hb k) (hw k), Finset.sum_add_distrib]
  abel

/-- The inputs: the tokens, the token's projection, the first state's projection, and each gate's weights and bias. -/
structure Args where
  x : Fin 64 → ℕ → Fin 768 → EReal
  wm : Fin 1024 → Fin 768 → EReal
  bm : Fin 1024 → EReal
  wh : Fin 1024 → Fin 768 → EReal
  bh : Fin 1024 → EReal
  wz : Fin 1024 → Fin 2048 → EReal
  bz : Fin 1024 → EReal
  wr : Fin 1024 → Fin 2048 → EReal
  br : Fin 1024 → EReal
  wi : Fin 1024 → Fin 2048 → EReal
  bi : Fin 1024 → EReal

/-- A column of a gate's weights that meets the token. -/
def lo (k : Fin 1024) : Fin 2048 := ⟨k.val, by omega⟩

/-- A column of a gate's weights that meets the state. -/
def hi (k : Fin 1024) : Fin 2048 := ⟨1024 + k.val, by omega⟩

namespace Args

variable (A : Args)

/-- The token `s` of the sequence `b`, projected, before its bias. -/
def word (s : ℕ) (b : Fin 64) (k : Fin 1024) : EReal := ∑ d, A.x b s d * A.wm k d

/-- What a gate takes from a projected token: the token through the weights, and a bias that holds the token's own. -/
def gate (W : Fin 1024 → Fin 2048 → EReal) (a : Fin 1024 → EReal) (s : ℕ) (b : Fin 64) (j : Fin 1024) : EReal :=
  ∑ k, A.word s b k * W j (lo k) + (a j + ∑ k, A.bm k * W j (lo k))

/-- The state after `s` steps. -/
def state : ℕ → Fin 64 → Fin 1024 → EReal
  | 0 => fun b j => ∑ d, A.x b 0 d * A.wh j d + A.bh j
  | s + 1 => fun b => next (A.gate A.wz A.bz s b) (A.gate A.wr A.br s b) (A.gate A.wi A.bi s b)
      (fun x j => A.wz j (hi x)) (fun x j => A.wr j (hi x)) (fun x j => A.wi j (hi x)) (state s b)

/-- What the equation asks: the token's bias and the weights that meet the token are real numbers. -/
structure Real : Prop where
  bm : ∀ k, A.bm k ≠ ⊤ ∧ A.bm k ≠ ⊥
  wz : ∀ j k, A.wz j (lo k) ≠ ⊤ ∧ A.wz j (lo k) ≠ ⊥
  wr : ∀ j k, A.wr j (lo k) ≠ ⊤ ∧ A.wr j (lo k) ≠ ⊥
  wi : ∀ j k, A.wi j (lo k) ≠ ⊤ ∧ A.wi j (lo k) ≠ ⊥

/-- A gate with its bias added to the token first. -/
theorem gate_add {A : Args} (hA : A.Real) (W : Fin 1024 → Fin 2048 → EReal) (hW : ∀ j k, W j (lo k) ≠ ⊤ ∧ W j (lo k) ≠ ⊥)
    (a : Fin 1024 → EReal) (s : ℕ) (b : Fin 64) (j : Fin 1024) (r : EReal) :
    A.gate W a s b j + r = (∑ k, (A.word s b k + A.bm k) * W j (lo k) + r) + a j :=
  gate_eq (A.word s b) A.bm (fun k => W j (lo k)) (a j) r hA.bm (hW j)

end Args

end Cert.Gru

end
-- ==== Proof.Entry.lean ====
/- What the kernel's region finds: the host's arrays of weights and biases, and each point's blocks, read at an index of
   the arguments. -/
module

public import proofs.«01_k».proof.Proof.Body
public import proofs.«01_k».proof.Proof.Math
public import Idealize.ShloMosaic.Lib.StableHlo.RunRead

@[expose] public section

set_option maxRecDepth 16384

noncomputable section

namespace Cert.KernelIdeal.Gru

open Cert.KernelIdeal Cert.KernelIdeal.Gen Idealize.ShloMosaic Idealize.ShloMosaic.TcCoe Idealize.SL.Sem Facts

variable (m : (ℓ : Loc nD τ sig) → Buf (Elt Ideal) ℓ)

/-- The kernel's arguments as the recurrence's inputs. -/
def args (c : Dev nD) : Cert.Gru.Args where
  x b s d := (m ((c.tc : Thread nD τ).loc main_arg0) : Vec Ideal S64x512x768 .f32) (ix3 b ⟨s % 512, Nat.mod_lt _ (by decide)⟩ d)
  wm j d := (m ((c.tc : Thread nD τ).loc main_arg1) : Vec Ideal S1024x768 .f32) (ix2 j d)
  bm j := (m ((c.tc : Thread nD τ).loc main_arg2) : Vec Ideal S1024 .f32) (ix1 j)
  wh j d := (m ((c.tc : Thread nD τ).loc main_arg3) : Vec Ideal S1024x768 .f32) (ix2 j d)
  bh j := (m ((c.tc : Thread nD τ).loc main_arg4) : Vec Ideal S1024 .f32) (ix1 j)
  wz j k := (m ((c.tc : Thread nD τ).loc main_arg5) : Vec Ideal S1024x2048 .f32) (ix2 j k)
  bz j := (m ((c.tc : Thread nD τ).loc main_arg6) : Vec Ideal S1024 .f32) (ix1 j)
  wr j k := (m ((c.tc : Thread nD τ).loc main_arg7) : Vec Ideal S1024x2048 .f32) (ix2 j k)
  br j := (m ((c.tc : Thread nD τ).loc main_arg8) : Vec Ideal S1024 .f32) (ix1 j)
  wi j k := (m ((c.tc : Thread nD τ).loc main_arg9) : Vec Ideal S1024x2048 .f32) (ix2 j k)
  bi j := (m ((c.tc : Thread nD τ).loc main_arg10) : Vec Ideal S1024 .f32) (ix1 j)

/-- The projection's weights at the entry: the token's projection, then the first state's, side by side. -/
theorem proj_apply (c : Dev nD) (d : Fin 768) (e : Fin 2048) : (V m c main_v2 : Vec Ideal S768x2048 .bf16) (ix2 d e)
    = if h : e.val < 1024 then (args m c).wm ⟨e.val, h⟩ d else (args m c).wh ⟨e.val - 1024, by omega⟩ d := by
  simp only [V]
  after_reads_simp
  pointwise
  rfl

/-- The gates' weights at the entry: the update gate's, the reset gate's and the candidate's, side by side. -/
theorem gates_apply (c : Dev nD) (d : Fin 2048) (e : Fin 3072) : (V m c main_v5 : Vec Ideal S2048x3072 .bf16) (ix2 d e)
    = if h : e.val < 1024 then (args m c).wz ⟨e.val, h⟩ d
      else if h : e.val - 1024 < 1024 then (args m c).wr ⟨e.val - 1024, h⟩ d
      else (args m c).wi ⟨e.val - 1024 - 1024, by omega⟩ d := by
  simp only [V]
  after_reads_simp
  pointwise
  rfl

/-- The first state's bias at the entry. -/
theorem bias0_apply (c : Dev nD) (e : Fin 1024) : (V m c main_v20 : Vec Ideal S1x1024 .f32) (ix2 0 e) = (args m c).bh e := by
  simp only [V]
  after_reads_simp
  pointwise
  rfl

/-- A gate's bias with the token's bias taken through the gate's weights. -/
def folded (A : Cert.Gru.Args) (W : Fin 1024 → Fin 2048 → EReal) (a : Fin 1024 → EReal) (j : Fin 1024) : EReal :=
  a j + ∑ k, A.bm k * W j (Cert.Gru.lo k)

/-- The gates' biases at the entry. -/
theorem bias_apply (c : Dev nD) (e : Fin 3072) : (V m c main_v19 : Vec Ideal S1x3072 .f32) (ix2 0 e)
    = if h : e.val < 1024 then folded (args m c) (args m c).wz (args m c).bz ⟨e.val, h⟩
      else if h : e.val - 1024 < 1024 then folded (args m c) (args m c).wr (args m c).br ⟨e.val - 1024, h⟩
      else folded (args m c) (args m c).wi (args m c).bi ⟨e.val - 1024 - 1024, by omega⟩ := by
  simp only [V]
  after_reads_simp
  pointwise
  after_reads_simp
  pointwise
  rfl

/-- The tokens' window moves along the sequence. -/
theorem idx0 : ∀ t : Fin cfg0.N, win0_0.index t = ![0, t.val, 0] := by decide +kernel
/-- The window of the first state's bias stays. -/
theorem idx1 : ∀ t : Fin cfg0.N, win0_1.index t = ![0, 0] := by decide +kernel
/-- The window of the gates' biases stays. -/
theorem idx2 : ∀ t : Fin cfg0.N, win0_2.index t = ![0, 0] := by decide +kernel

/-- A point's block of tokens. -/
theorem blk0_apply (c : Dev nD) (t : Fin cfg0.N) (b : Fin 64) (d : Fin 16) (e : Fin 768) : (iblk m c 0 t : Vec Ideal S64x16x768 .f32) (ix3 b d e)
    = (args m c).x b (16 * t.val + d.val) e := by
  have ht : t.val < 32 := lt_of_lt_of_eq t.isLt (show cfg0.N = 32 from N_0)
  simp only [args, Nat.mod_eq_of_lt (show 16 * t.val + d.val < 512 by omega)]
  blk_ext [iblk, V, idx0 t]

/-- The first state's bias, whole at every point. -/
theorem blk1_apply (c : Dev nD) (t : Fin cfg0.N) (e : Fin 1024) : (iblk m c 1 t : Vec Ideal S1x1024 .f32) (ix2 0 e) = (V m c main_v20 : Vec Ideal S1x1024 .f32) (ix2 0 e) := by
  blk_ext [iblk, idx1 t]

/-- The gates' biases, whole at every point. -/
theorem blk2_apply (c : Dev nD) (t : Fin cfg0.N) (e : Fin 3072) : (iblk m c 2 t : Vec Ideal S1x3072 .f32) (ix2 0 e) = (V m c main_v19 : Vec Ideal S1x3072 .f32) (ix2 0 e) := by
  blk_ext [iblk, idx2 t]

end Cert.KernelIdeal.Gru

end
-- ==== Proof.Precondition.lean ====
/- What the precondition says of the inputs, and its own side conditions. -/
module

public import proofs.«01_k».proof.Defs
public import proofs.«01_k».proof.Proof.Entry
public import Idealize.ShloMosaic.Lib.Pointwise

@[expose] public section

noncomputable section

namespace Cert.Gru

open Idealize.ShloMosaic Idealize.ShloMosaic.TcCoe

/-- The shapes that the precondition slices and broadcasts fit. -/
instance facts : Cert.Pre_real_gate_inputs.Facts where
  slices_S1024x2048_S1024x1024_0_0 := by decide
  bcast_S_S1024x1024 := by decide
  bcast_S_S1024 := by decide

/-- A value whose absolute value is below infinity is a real number. -/
theorem real_of_abs_lt (x : EReal) (h : FloatOps.cmpf (F := Ideal) (φ := .f32) .olt (FloatOps.hostAbsf (F := Ideal) (φ := .f32) x) (FloatOps.ofBits (F := Ideal) .f32 0x7F800000#32) = 1#1) :
    x ≠ ⊤ ∧ x ≠ ⊥ := by
  have ht : Ideal.ofBits .f32 0x7F800000#32 = ⊤ := by simp [Ideal.ofBits, Ideal.ieee]
  have h' : Ideal.cmp .olt (max x (-x)) (Ideal.ofBits .f32 0x7F800000#32) = 1 := h
  rw [Ideal.cmp_olt_eq_one, ht, max_lt_iff] at h'
  exact ⟨h'.1.ne, fun e => h'.2.ne (by rw [e, EReal.neg_bot])⟩

/-- Two truth values whose conjunction is true are true. -/
theorem and_one : ∀ a b : BitVec 1, IntOp.andi a b = 1#1 → a = 1#1 ∧ b = 1#1 := by decide

end Cert.Gru

namespace Cert.KernelIdeal.Gru

open Cert.KernelIdeal Idealize.ShloMosaic Idealize.ShloMosaic.TcCoe

/-- Under the precondition the token's bias and the weights that meet the token are real numbers. -/
theorem args_real (m : (ℓ : Loc nD τ sig) → Buf (Elt Ideal) ℓ) (h : Cert.Pre_KernelIdeal_real_gate_inputs m) (c : Dev nD) : (args m c).Real := by
  have gates (j k : Fin 1024) := Cert.Gru.and_one _ _ (congrFun (h c).1 (ix2 j k))
  have bias (k : Fin 1024) := Cert.Gru.real_of_abs_lt ((args m c).bm k) (congrFun (h c).2 (ix1 k))
  have two (j k : Fin 1024) := Cert.Gru.and_one _ _ (gates j k).1
  have real (W : Vec Ideal S1024x2048 .f32) (j k : Fin 1024) (hW : FloatOps.cmpf (F := Ideal) (φ := .f32) .olt
      (FloatOps.hostAbsf (F := Ideal) (φ := .f32) ((extractStridedSlice S1024x1024 ![0, 0] W Cert.Gru.facts.slices_S1024x2048_S1024x1024_0_0 : Vec Ideal S1024x1024 .f32) (ix2 j k)))
      (FloatOps.ofBits (F := Ideal) .f32 0x7F800000#32) = 1#1) : W (ix2 j (Cert.Gru.lo k)) ≠ (⊤ : EReal) ∧ W (ix2 j (Cert.Gru.lo k)) ≠ (⊥ : EReal) := by
    have e : (extractStridedSlice S1024x1024 ![0, 0] W Cert.Gru.facts.slices_S1024x2048_S1024x1024_0_0 : Vec Ideal S1024x1024 .f32) (ix2 j k) = W (ix2 j (Cert.Gru.lo k)) := by
      pointwise [Cert.Gru.lo]
    rw [e] at hW
    exact Cert.Gru.real_of_abs_lt _ hW
  exact ⟨bias, fun j k => real _ j k (two j k).1, fun j k => real _ j k (two j k).2, fun j k => real _ j k (gates j k).2⟩

end Cert.KernelIdeal.Gru

end
-- ==== Proof.Array.lean ====
/- What the kernel's result array holds: the last point alone writes it, and writes the state after all 512 tokens. -/
module

public import proofs.«01_k».proof.Proof.Body
public import Idealize.ShloMosaic.Lib.Pipeline.ValueKit

@[expose] public section

noncomputable section

namespace Cert.KernelIdeal.Gru

open Cert.KernelIdeal Cert.KernelIdeal.Gen Idealize.ShloMosaic Idealize.ShloMosaic.TcCoe Idealize.SL.Sem

variable {F : FTy → Type} [FloatOps F] (m : (ℓ : Loc nD τ sig) → Buf (Elt F) ℓ)

/-- The grid's last point. -/
def last : Fin cfg0.N := ⟨31, lt_of_lt_of_eq (by decide : 31 < 32) N_0.symm⟩

/-- The result array ends with the state after all the tokens. -/
theorem arr_eq (c : Dev nD) : (dats m 0 c).arrAt 3 cfg0.N = seq m c 512 := by
  refine (dats m 0 c).arrAt_eq_of_after_last 3 last (by decide +kernel) _ fun j => ?_
  blk_simp
  rw [after0_3, out_eq m c last rfl]

end Cert.KernelIdeal.Gru

end
-- ==== Proof.Values.lean ====
/- The kernel's state is the recurrence's: one step at an index, the gates that a chunk of tokens gives, the first state. -/
module

public import proofs.«01_k».proof.Proof.Entry

@[expose] public section

set_option maxRecDepth 16384

noncomputable section

namespace Cert.KernelIdeal.Gru

open Cert.KernelIdeal Cert.KernelIdeal.Gen Idealize.ShloMosaic Idealize.ShloMosaic.TcCoe Idealize.SL.Sem Facts

/-- One step at an index is one step of the recurrence on its row. -/
theorem step_apply (g : Vec Ideal S64x3072 .f32) (w : Vec Ideal S1024x2048 .bf16) (v : Vec Ideal S1024x1024 .bf16) (h : Vec Ideal S64x1024 .f32) (b : Fin 64) (j : Fin 1024) :
    step g w v h (ix2 b j) = Cert.Gru.next (fun j => g (ix2 b ⟨j.val, by omega⟩)) (fun j => g (ix2 b ⟨1024 + j.val, by omega⟩)) (fun j => g (ix2 b ⟨2048 + j.val, by omega⟩))
      (fun x j => w (ix2 x ⟨j.val, by omega⟩)) (fun x j => w (ix2 x ⟨1024 + j.val, by omega⟩)) (fun x j => v (ix2 x j)) (fun j => h (ix2 b j)) j := by
  pointwise [step, keep, zOf, zr, gzr, hzr, hb, cand, gi, rhw, rh, rOf, Cert.Gru.next]

/-- A chunk's gates at a row: the token's projection through the weights, and the bias. -/
theorem slab_apply (X : Vec Ideal S64x16x768 .f32) (M : Vec Ideal S768x2048 .bf16) (W : Vec Ideal S2048x3072 .bf16) (a : Vec Ideal S1x3072 .f32) (k : Fin 16) (b : Fin 64) (e : Fin 3072) :
    tok (slab X M W a) k.val (ix2 b e) = ∑ x : Fin 1024, (∑ d : Fin 768, X (ix3 b k d) * M (ix2 d ⟨x.val, by omega⟩)) * W (ix2 ⟨x.val, by omega⟩ e) + a (ix2 0 e) := by
  have h1 : (64 * k.val + b.val) % 1024 % 64 = b.val := by omega
  have h2 : (64 * k.val + b.val) % 1024 / 64 = k.val := by omega
  pointwise [tok, slab, k0_pay4, h1, h2]

/-- The first state at an index. -/
theorem start_apply (X : Vec Ideal S64x16x768 .f32) (M : Vec Ideal S768x2048 .bf16) (a : Vec Ideal S1x1024 .f32) (b : Fin 64) (j : Fin 1024) :
    start X M a (ix2 b j) = ∑ d : Fin 768, X (ix3 b 0 d) * M (ix2 d ⟨1024 + j.val, by omega⟩) + a (ix2 0 j) := by
  pointwise [start, k0_pay3]

/-- The rows of the two gates' weights that meet the state. -/
theorem wzr_apply (W : Vec Ideal S2048x3072 .bf16) (x : Fin 1024) (e : Fin 2048) : wzr W (ix2 x e) = W (ix2 (Cert.Gru.hi x) ⟨e.val, by omega⟩) := by
  pointwise [wzr, Cert.Gru.hi]

/-- The rows of the candidate's weights that meet the reset state. -/
theorem wi_apply (W : Vec Ideal S2048x3072 .bf16) (x e : Fin 1024) : wi W (ix2 x e) = W (ix2 (Cert.Gru.hi x) ⟨2048 + e.val, by omega⟩) := by
  pointwise [wi, Cert.Gru.hi]

variable (m : (ℓ : Loc nD τ sig) → Buf (Elt Ideal) ℓ)

/-- Three arrays of columns side by side, at a column of the second. -/
theorem col1 {α : Type} (f g h : Fin 1024 → α) (j : Fin 1024) (r : 1024 + j.val - 1024 - 1024 < 1024) :
    (if h' : 1024 + j.val < 1024 then f ⟨1024 + j.val, h'⟩ else if h' : 1024 + j.val - 1024 < 1024 then g ⟨1024 + j.val - 1024, h'⟩ else h ⟨1024 + j.val - 1024 - 1024, r⟩) = g j := by
  rw [dif_neg (by omega), dif_pos (by omega)]
  exact congrArg g (Fin.ext (by show 1024 + j.val - 1024 = j.val; omega))

/-- Three arrays of columns side by side, at a column of the third. -/
theorem col2 {α : Type} (f g h : Fin 1024 → α) (j : Fin 1024) (r : 2048 + j.val - 1024 - 1024 < 1024) :
    (if h' : 2048 + j.val < 1024 then f ⟨2048 + j.val, h'⟩ else if h' : 2048 + j.val - 1024 < 1024 then g ⟨2048 + j.val - 1024, h'⟩ else h ⟨2048 + j.val - 1024 - 1024, r⟩) = h j := by
  rw [dif_neg (by omega), dif_neg (by omega)]
  exact congrArg h (Fin.ext (by show 2048 + j.val - 1024 - 1024 = j.val; omega))

/-- The gates' weights at a column of the update gate. -/
theorem weight_z (c : Dev nD) (d : Fin 2048) (j : Fin 1024) : (V m c main_v5 : Vec Ideal S2048x3072 .bf16) (ix2 d ⟨j.val, by omega⟩) = (args m c).wz j d :=
  (gates_apply m c d _).trans (dif_pos j.isLt)
/-- The gates' weights at a column of the reset gate. -/
theorem weight_r (c : Dev nD) (d : Fin 2048) (j : Fin 1024) : (V m c main_v5 : Vec Ideal S2048x3072 .bf16) (ix2 d ⟨1024 + j.val, by omega⟩) = (args m c).wr j d :=
  (gates_apply m c d _).trans (col1 ((args m c).wz · d) ((args m c).wr · d) ((args m c).wi · d) j (by omega))
/-- The gates' weights at a column of the candidate. -/
theorem weight_i (c : Dev nD) (d : Fin 2048) (j : Fin 1024) : (V m c main_v5 : Vec Ideal S2048x3072 .bf16) (ix2 d ⟨2048 + j.val, by omega⟩) = (args m c).wi j d :=
  (gates_apply m c d _).trans (col2 ((args m c).wz · d) ((args m c).wr · d) ((args m c).wi · d) j (by omega))

/-- The projected token that a chunk's row takes. -/
theorem word_eq (c : Dev nD) (t : Fin cfg0.N) (k : Fin 16) (b : Fin 64) (x : Fin 1024) :
    (∑ d : Fin 768, HMul.hMul (α := EReal) (β := EReal) (γ := EReal) ((iblk m c 0 t : Vec Ideal S64x16x768 .f32) (ix3 b k d)) ((V m c main_v2 : Vec Ideal S768x2048 .bf16) (ix2 d ⟨x.val, by omega⟩))) = (args m c).word (16 * t.val + k.val) b x := by
  refine Finset.sum_congr rfl fun d _ => ?_
  rw [blk0_apply, proj_apply, dif_pos x.isLt]

/-- A chunk's gates at a column whose weights and bias are known. -/
theorem gate_of (c : Dev nD) (t : Fin cfg0.N) (k : Fin 16) (b : Fin 64) (j : Fin 1024) (e : Fin 3072) (W : Fin 1024 → Fin 2048 → EReal) (a : Fin 1024 → EReal)
    (hW : ∀ d, (V m c main_v5 : Vec Ideal S2048x3072 .bf16) (ix2 d e) = W j d) (ha : (V m c main_v19 : Vec Ideal S1x3072 .f32) (ix2 0 e) = folded (args m c) W a j) :
    tok (slabAt m c t) k.val (ix2 b e) = (args m c).gate W a (16 * t.val + k.val) b j := by
  rw [slabAt, slab_apply, blk2_apply, ha]
  refine congrArg₂ _ (Finset.sum_congr rfl fun x _ => ?_) rfl
  rw [word_eq, hW]
  rfl

/-- A chunk's gates, at a column of the update gate. -/
theorem gate_z (c : Dev nD) (t : Fin cfg0.N) (k : Fin 16) (b : Fin 64) (j : Fin 1024) :
    tok (slabAt m c t) k.val (ix2 b ⟨j.val, by omega⟩) = (args m c).gate (args m c).wz (args m c).bz (16 * t.val + k.val) b j :=
  gate_of m c t k b j _ _ _ (fun d => weight_z m c d j) ((bias_apply m c _).trans (dif_pos j.isLt))

/-- A chunk's gates, at a column of the reset gate. -/
theorem gate_r (c : Dev nD) (t : Fin cfg0.N) (k : Fin 16) (b : Fin 64) (j : Fin 1024) :
    tok (slabAt m c t) k.val (ix2 b ⟨1024 + j.val, by omega⟩) = (args m c).gate (args m c).wr (args m c).br (16 * t.val + k.val) b j :=
  gate_of m c t k b j _ _ _ (fun d => weight_r m c d j)
    ((bias_apply m c _).trans (col1 (folded (args m c) (args m c).wz (args m c).bz) (folded (args m c) (args m c).wr (args m c).br) (folded (args m c) (args m c).wi (args m c).bi) j (by omega)))

/-- A chunk's gates, at a column of the candidate. -/
theorem gate_i (c : Dev nD) (t : Fin cfg0.N) (k : Fin 16) (b : Fin 64) (j : Fin 1024) :
    tok (slabAt m c t) k.val (ix2 b ⟨2048 + j.val, by omega⟩) = (args m c).gate (args m c).wi (args m c).bi (16 * t.val + k.val) b j :=
  gate_of m c t k b j _ _ _ (fun d => weight_i m c d j)
    ((bias_apply m c _).trans (col2 (folded (args m c) (args m c).wz (args m c).bz) (folded (args m c) (args m c).wr (args m c).br) (folded (args m c) (args m c).wi (args m c).bi) j (by omega)))

/-- The update gate's recurrent weights. -/
theorem rec_z (c : Dev nD) (x j : Fin 1024) : wzr (V m c main_v5) (ix2 x ⟨j.val, by omega⟩) = (args m c).wz j (Cert.Gru.hi x) :=
  (wzr_apply _ x _).trans (weight_z m c _ j)
/-- The reset gate's recurrent weights. -/
theorem rec_r (c : Dev nD) (x j : Fin 1024) : wzr (V m c main_v5) (ix2 x ⟨1024 + j.val, by omega⟩) = (args m c).wr j (Cert.Gru.hi x) :=
  (wzr_apply _ x _).trans (weight_r m c _ j)
/-- The candidate's recurrent weights. -/
theorem rec_i (c : Dev nD) (x j : Fin 1024) : wi (V m c main_v5) (ix2 x j) = (args m c).wi j (Cert.Gru.hi x) :=
  (wi_apply _ x j).trans (weight_i m c _ j)

/-- The kernel's state after `s` steps is the recurrence's. -/
theorem seq_apply (c : Dev nD) : ∀ s, s ≤ 512 → ∀ (b : Fin 64) (j : Fin 1024), seq m c s (ix2 b j) = (args m c).state s b j
  | 0, _, b, j => by
    show start (iblk m c 0 first) (V m c main_v2) (iblk m c 1 first) (ix2 b j) = _
    rw [start_apply, blk1_apply, bias0_apply]
    refine congrArg₂ _ (Finset.sum_congr rfl fun d _ => ?_) rfl
    rw [blk0_apply, proj_apply, dif_neg (by show ¬(1024 + j.val < 1024); omega)]
    exact congrArg₂ _ rfl (congrArg ((args m c).wh · d) (Fin.ext (by show 1024 + j.val - 1024 = j.val; omega)))
  | s + 1, hs, b, j => by
    have hk : s % 16 < 16 := Nat.mod_lt _ (by decide)
    have e : 16 * (s / 16 % 32) + s % 16 = s := by omega
    have ih := seq_apply c s (by omega) b
    show step (tok (slabAt m c ⟨s / 16 % 32, _⟩) (s % 16)) (wzr (V m c main_v5)) (wi (V m c main_v5)) (seq m c s) (ix2 b j) = _
    rw [step_apply]
    have hz := fun j => gate_z m c ⟨s / 16 % 32, lt_of_lt_of_eq (Nat.mod_lt _ (by decide)) (show 32 = cfg0.N from N_0.symm)⟩ ⟨s % 16, hk⟩ b j
    have hr := fun j => gate_r m c ⟨s / 16 % 32, lt_of_lt_of_eq (Nat.mod_lt _ (by decide)) (show 32 = cfg0.N from N_0.symm)⟩ ⟨s % 16, hk⟩ b j
    have hi := fun j => gate_i m c ⟨s / 16 % 32, lt_of_lt_of_eq (Nat.mod_lt _ (by decide)) (show 32 = cfg0.N from N_0.symm)⟩ ⟨s % 16, hk⟩ b j
    simp only [e] at hz hr hi
    exact congrFun (congr (congr (congr (congr (congr (congr (congrArg Cert.Gru.next (funext hz)) (funext hr)) (funext hi))
      (funext fun x => funext fun j => rec_z m c x j)) (funext fun x => funext fun j => rec_r m c x j)) (funext fun x => funext fun j => rec_i m c x j)) (funext ih)) j

end Cert.KernelIdeal.Gru

end
-- ==== Proof.Reference.lean ====
/- What the reference computes: its loop's state after `s` trips is the recurrence's state after `s` steps. -/
module

public import proofs.«01_k».proof.Proof.Math
public import proofs.«01_k».proof.Proof.Gen.ReferenceIdeal.Run
public import Idealize.ShloMosaic.Lib.Pointwise
public import Idealize.ShloMosaic.Lib.DynamicIndex
public import Idealize.ShloMosaic.Lib.Tactic.CleanTypes

@[expose] public section

set_option maxRecDepth 16384

noncomputable section

namespace Cert.ReferenceIdeal.Gru

open Cert.ReferenceIdeal Cert.ReferenceIdeal.Gen Cert.ReferenceIdeal.Value Idealize.ShloMosaic Idealize.ShloMosaic.TcCoe Idealize.SL.Sem Idealize.ShloMosaic.StableHlo Facts

/-- The loop's token at trip `s`, read out of the array of projected tokens. -/
theorem word_apply (V0 : Valuation τ sig (Elt Ideal)) (s : Fin 512) (hs : V0 (Proc.devRef .tc main_v12_7) = fun _ => Scf.iv 0#32 1#32 s.val) (b : Fin 64) (j : Fin 1024) :
    (res_main_while0b_v13 V0 : Vec Ideal S64x1024 .f32) (ix2 b j) = (V0 (Proc.devRef .tc main_v12_0) : Vec Ideal S512x64x1024 .f32) (ix3 s b j) := by
  have hi : (Scf.iv 0#32 1#32 s.val).toInt = s.val := by
    rw [show Scf.iv 0#32 1#32 s.val = BitVec.ofNat 32 s.val by simp [Scf.iv]]
    exact toInt_ofNat_of_lt (by omega)
  unfold res_main_while0b_v13
  rw [hs]
  clean_types
  pointwise
  refine congrArg _ ?_
  have h0 := Host.clampedStart_of_le (s := S512x64x1024) (t := S1x64x1024) rfl
    (fun k => ((![fun _ => Scf.iv 0#32 1#32 s.val, constantI S_ 32 0#32, constantI S_ 32 0#32] : Fin 3 → IVec S_ 32) k (Shape.Idx.first h_S_)).toInt) 0 s.val hi (by show s.val + 1 ≤ 512; omega)
  have h1 := Host.clampedStart_of_le (s := S512x64x1024) (t := S1x64x1024) rfl
    (fun k => ((![fun _ => Scf.iv 0#32 1#32 s.val, constantI S_ 32 0#32, constantI S_ 32 0#32] : Fin 3 → IVec S_ 32) k (Shape.Idx.first h_S_)).toInt) 1 0 rfl (by decide)
  have h2 := Host.clampedStart_of_le (s := S512x64x1024) (t := S1x64x1024) rfl
    (fun k => ((![fun _ => Scf.iv 0#32 1#32 s.val, constantI S_ 32 0#32, constantI S_ 32 0#32] : Fin 3 → IVec S_ 32) k (Shape.Idx.first h_S_)).toInt) 2 0 rfl (by decide)
  refine congr (congr (congrArg ix3 (Fin.ext h0)) (Fin.ext ?_)) (Fin.ext ?_)
  · exact (congrArg (· + b.val) h1).trans (Nat.zero_add _)
  · exact (congrArg (· + j.val) h2).trans (Nat.zero_add _)

/-- The carried arrays as the recurrence needs them before trip `s`. -/
structure Carried (A : Cert.Gru.Args) (V0 : Valuation τ sig (Elt Ideal)) (s : ℕ) : Prop where
  ctr : V0 (Proc.devRef .tc main_v12_7) = fun _ => Scf.iv 0#32 1#32 s
  word : ∀ (s : Fin 512) (b : Fin 64) (j : Fin 1024), (V0 (Proc.devRef .tc main_v12_0) : Vec Ideal S512x64x1024 .f32) (ix3 s b j) = A.word s.val b j + A.bm j
  wz : ∀ (j : Fin 1024) (k : Fin 2048), (V0 (Proc.devRef .tc main_v12_1) : Vec Ideal S1024x2048 .f32) (ix2 j k) = A.wz j k
  bz : ∀ (j : Fin 1024), (V0 (Proc.devRef .tc main_v12_2) : Vec Ideal S1024 .f32) (ix1 j) = A.bz j
  wr : ∀ (j : Fin 1024) (k : Fin 2048), (V0 (Proc.devRef .tc main_v12_3) : Vec Ideal S1024x2048 .f32) (ix2 j k) = A.wr j k
  br : ∀ (j : Fin 1024), (V0 (Proc.devRef .tc main_v12_4) : Vec Ideal S1024 .f32) (ix1 j) = A.br j
  wi : ∀ (j : Fin 1024) (k : Fin 2048), (V0 (Proc.devRef .tc main_v12_5) : Vec Ideal S1024x2048 .f32) (ix2 j k) = A.wi j k
  bi : ∀ (j : Fin 1024), (V0 (Proc.devRef .tc main_v12_6) : Vec Ideal S1024 .f32) (ix1 j) = A.bi j
  state : ∀ (b : Fin 64) (j : Fin 1024), (V0 (Proc.devRef .tc main_v12_8) : Vec Ideal S64x1024 .f32) (ix2 b j) = A.state s b j

/-- One trip's state is the recurrence's next. -/
theorem step_apply {A : Cert.Gru.Args} (hA : A.Real) {V0 : Valuation τ sig (Elt Ideal)} {s : ℕ} (hs : s < 512) (h : Carried A V0 s) (b : Fin 64) (j : Fin 1024) :
    (step_main_v12_8 V0 : Vec Ideal S64x1024 .f32) (ix2 b j) = A.state (s + 1) b j := by
  have hu : ∀ k : Fin 1024, (res_main_while0b_v13 V0 : Vec Ideal S64x1024 .f32) (ix2 b k) = A.word s b k + A.bm k :=
    fun k => (word_apply V0 ⟨s, hs⟩ h.ctr b k).trans (h.word ⟨s, hs⟩ b k)
  unfold step_main_v12_8 res_main_while0b_v25 res_main_while0b_v14
  generalize res_main_while0b_v13 V0 = u at hu
  clean_types
  pointwise [id_eq]
  simp only [Cert.Gru.Args.state, Cert.Gru.next, Cert.Gru.Args.gate_add hA _ hA.wz, Cert.Gru.Args.gate_add hA _ hA.wr, Cert.Gru.Args.gate_add hA _ hA.wi, Ideal.logistic, Cert.Gru.lo, Cert.Gru.hi]
  simp only [hu, h.wz, h.bz, h.wr, h.br, h.wi, h.bi, h.state]

/-- A trip carries the arrays to the next. -/
theorem Carried.next {A : Cert.Gru.Args} (hA : A.Real) {V0 : Valuation τ sig (Elt Ideal)} {s : ℕ} (hs : s < 512) (h : Carried A V0 s) : Carried A (STEP V0) (s + 1) where
  ctr := by
    rw [STEP_main_v12_7, step_main_v12_7, h.ctr, Scf.iv_succ]
    rfl
  word := by rw [STEP_main_v12_0]; exact h.word
  wz := by rw [STEP_main_v12_1]; exact h.wz
  bz := by rw [STEP_main_v12_2]; exact h.bz
  wr := by rw [STEP_main_v12_3]; exact h.wr
  br := by rw [STEP_main_v12_4]; exact h.br
  wi := by rw [STEP_main_v12_5]; exact h.wi
  bi := by rw [STEP_main_v12_6]; exact h.bi
  state b j := by rw [STEP_main_v12_8]; exact step_apply hA hs h b j

variable (m : (ℓ : Loc nD τ sig) → Buf (Elt Ideal) ℓ)

/-- The reference's arguments as the recurrence's inputs. -/
def args (c : Dev nD) : Cert.Gru.Args where
  x b s d := (m ((c.tc : Thread nD τ).loc main_arg0) : Vec Ideal S64x512x768 .f32) (ix3 b ⟨s % 512, Nat.mod_lt _ (by decide)⟩ d)
  wm j d := (m ((c.tc : Thread nD τ).loc main_arg1) : Vec Ideal S1024x768 .f32) (ix2 j d)
  bm j := (m ((c.tc : Thread nD τ).loc main_arg2) : Vec Ideal S1024 .f32) (ix1 j)
  wh j d := (m ((c.tc : Thread nD τ).loc main_arg3) : Vec Ideal S1024x768 .f32) (ix2 j d)
  bh j := (m ((c.tc : Thread nD τ).loc main_arg4) : Vec Ideal S1024 .f32) (ix1 j)
  wz j k := (m ((c.tc : Thread nD τ).loc main_arg5) : Vec Ideal S1024x2048 .f32) (ix2 j k)
  bz j := (m ((c.tc : Thread nD τ).loc main_arg6) : Vec Ideal S1024 .f32) (ix1 j)
  wr j k := (m ((c.tc : Thread nD τ).loc main_arg7) : Vec Ideal S1024x2048 .f32) (ix2 j k)
  br j := (m ((c.tc : Thread nD τ).loc main_arg8) : Vec Ideal S1024 .f32) (ix1 j)
  wi j k := (m ((c.tc : Thread nD τ).loc main_arg9) : Vec Ideal S1024x2048 .f32) (ix2 j k)
  bi j := (m ((c.tc : Thread nD τ).loc main_arg10) : Vec Ideal S1024 .f32) (ix1 j)

/-- The projected tokens at the loop's entry. -/
theorem entry_word (c : Dev nD) (s : Fin 512) (b : Fin 64) (j : Fin 1024) :
    (entryContents preI m c (Proc.devRef .tc main_v12_0) : Vec Ideal S512x64x1024 .f32) (ix3 s b j) = (args m c).word s.val b j + (args m c).bm j := by
  simp only [entryContents, afterL_cons, afterL_nil, args, Cert.Gru.Args.word, Nat.mod_eq_of_lt s.isLt]
  after_reads_simp
  pointwise [id_eq]

/-- The state at the loop's entry. -/
theorem entry_state (c : Dev nD) (b : Fin 64) (j : Fin 1024) :
    (entryContents preI m c (Proc.devRef .tc main_v12_8) : Vec Ideal S64x1024 .f32) (ix2 b j) = (args m c).state 0 b j := by
  simp only [entryContents, afterL_cons, afterL_nil]
  after_reads_simp
  pointwise [id_eq]
  rfl

/-- The carried arrays at the loop's entry. -/
theorem carried_zero (c : Dev nD) : Carried (args m c) (entryContents preI m c) 0 where
  ctr := (ctr_entry m c).trans (by rw [Scf.iv_zero])
  word := entry_word m c
  wz j k := by simp only [entryContents, afterL_cons, afterL_nil]; after_reads_simp; rfl
  bz j := by simp only [entryContents, afterL_cons, afterL_nil]; after_reads_simp; rfl
  wr j k := by simp only [entryContents, afterL_cons, afterL_nil]; after_reads_simp; rfl
  br j := by simp only [entryContents, afterL_cons, afterL_nil]; after_reads_simp; rfl
  wi j k := by simp only [entryContents, afterL_cons, afterL_nil]; after_reads_simp; rfl
  bi j := by simp only [entryContents, afterL_cons, afterL_nil]; after_reads_simp; rfl
  state := entry_state m c

/-- The carried arrays after `s` trips. -/
theorem carried (c : Dev nD) (hA : (args m c).Real) : ∀ s, s ≤ 512 → Carried (args m c) (STEP^[s] (entryContents preI m c)) s
  | 0, _ => carried_zero m c
  | s + 1, hs => by
    rw [Function.iterate_succ_apply']
    exact (carried c hA s (by omega)).next hA (by omega)

/-- The reference's result is the recurrence's state after 512 steps. -/
theorem result_apply (c : Dev nD) (hA : (args m c).Real) (b : Fin 64) (j : Fin 1024) :
    ((STEP^[512] (entryContents preI m c)) (Proc.devRef .tc main_v12_8) : Vec Ideal S64x1024 .f32) (ix2 b j) = (args m c).state 512 b j :=
  (carried m c hA 512 le_rfl).state b j

end Cert.ReferenceIdeal.Gru

end
-- ==== Proof.lean ====
/- The proof of the claims: the runs of the two programs, and the equation between what they end with. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Precondition
public import proofs.«01_k».proof.Proof.Array
public import proofs.«01_k».proof.Proof.Values
public import proofs.«01_k».proof.Proof.Reference
public import Idealize.ShloMosaic.Adequacy
public import Idealize.ShloMosaic.Init
public import Idealize.ShloMosaic.Lib.Claim

@[expose] public section

noncomputable section

namespace Cert.Proof

open Idealize.ShloMosaic Idealize.SL.Sem

/-- The reference runs, leaves its arguments as they were, and every semaphore at zero. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Memories that agree on the arguments give the two programs one set of inputs. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) : Cert.ReferenceIdeal.Gru.args m' c = Cert.KernelIdeal.Gru.args m c := by
  obtain ⟨h0, h1, h2, h3, h4, h5, h6, h7, h8, h9, h10⟩ := h
  simp only [Cert.ReferenceIdeal.Gru.args, Cert.KernelIdeal.Gru.args, h0, h1, h2, h3, h4, h5, h6, h7, h8, h9, h10]

/-- The idealized kernel and the idealized reference end with equal results. -/
theorem algebraic : Cert.algebraic_KernelIdeal_ReferenceIdeal_pre_real_gate_inputs := by
  intro m g m' g' hpre hagree
  refine ⟨fun c => (Cert.KernelIdeal.Gen.dats m 0 c).arrAt 3 Cert.KernelIdeal.cfg0.N, Cert.KernelIdeal.Value.run_blocks m g, ?_⟩
  refine (θ_run _ _ _).mono (fun _ h c => ⟨(h c).1.trans ?_, (h c).2⟩) (Cert.ReferenceIdeal.Value.run (F := Ideal) m' g')
  refine Eq.trans ?_ (Cert.KernelIdeal.Gru.arr_eq m c).symm
  have he := args_eq m m' c (hagree c)
  have hr := Cert.KernelIdeal.Gru.args_real m hpre c
  have hb (b : Fin 64) (j : Fin 1024) := (Cert.ReferenceIdeal.Gru.result_apply m' c (he.symm ▸ hr) b j).trans
    ((congrArg (fun A : Cert.Gru.Args => A.state 512 b j) he).trans (Cert.KernelIdeal.Gru.seq_apply m c 512 le_rfl b j).symm)
  funext i
  rw [eq_ix2 i]
  exact hb (i 0) (i 1)

/-- All the claims: the three frames, with and without the precondition, what idealizing keeps, and the equal results. -/
theorem claim : Cert.Claim := ⟨Cert.Kernel.Gen.facts, Cert.KernelIdeal.Gen.facts, Cert.ReferenceIdeal.Gen.facts, Cert.Gru.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial, trivial, algebraic⟩

end Cert.Proof

end
